-- ==== Defs.lean ====
def Pre_Gather [hPre_index_in_rows : Cert.Pre_index_in_rows.Facts] (m : (ℓ : Loc Cert.Gather.nD Cert.Gather.τ Cert.Gather.sig) → Buf (Elt Bits) ℓ) : Prop :=
  ∀ c : Dev Cert.Gather.nD,
    (Cert.Pre_index_in_rows.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2)) (m ((c.tc : Thread Cert.Gather.nD Cert.Gather.τ).loc Cert.Gather.main_arg3)) (m ((c.tc : Thread Cert.Gather.nD Cert.Gather.τ).loc Cert.Gather.main_arg4)) (m ((c.tc : Thread Cert.Gather.nD Cert.Gather.τ).loc Cert.Gather.main_arg5)) (m ((c.tc : Thread Cert.Gather.nD Cert.Gather.τ).loc Cert.Gather.main_arg6)) (m ((c.tc : Thread Cert.Gather.nD Cert.Gather.τ).loc Cert.Gather.main_arg7)) (m ((c.tc : Thread Cert.Gather.nD Cert.Gather.τ).loc Cert.Gather.main_arg8)) (m ((c.tc : Thread Cert.Gather.nD Cert.Gather.τ).loc Cert.Gather.main_arg9)) (m ((c.tc : Thread Cert.Gather.nD Cert.Gather.τ).loc Cert.Gather.main_arg10))) = (fun _ => 1#1)

def Pre_GatherIdeal [hPre_index_in_rows : Cert.Pre_index_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_index_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2)) (m ((c.tc : Thread Cert.GatherIdeal.nD Cert.GatherIdeal.τ).loc Cert.GatherIdeal.main_arg3)) (m ((c.tc : Thread Cert.GatherIdeal.nD Cert.GatherIdeal.τ).loc Cert.GatherIdeal.main_arg4)) (m ((c.tc : Thread Cert.GatherIdeal.nD Cert.GatherIdeal.τ).loc Cert.GatherIdeal.main_arg5)) (m ((c.tc : Thread Cert.GatherIdeal.nD Cert.GatherIdeal.τ).loc Cert.GatherIdeal.main_arg6)) (m ((c.tc : Thread Cert.GatherIdeal.nD Cert.GatherIdeal.τ).loc Cert.GatherIdeal.main_arg7)) (m ((c.tc : Thread Cert.GatherIdeal.nD Cert.GatherIdeal.τ).loc Cert.GatherIdeal.main_arg8)) (m ((c.tc : Thread Cert.GatherIdeal.nD Cert.GatherIdeal.τ).loc Cert.GatherIdeal.main_arg9)) (m ((c.tc : Thread Cert.GatherIdeal.nD Cert.GatherIdeal.τ).loc Cert.GatherIdeal.main_arg10))) = (fun _ => 1#1)

def Pre_GatherRefIdeal (m : (ℓ : Loc Cert.GatherRefIdeal.nD Cert.GatherRefIdeal.τ Cert.GatherRefIdeal.sig) → Buf (Elt Ideal) ℓ) : Prop :=
  True

def Pre_GatherRefIdeal_index_in_rows [hPre_index_in_rows : Cert.Pre_index_in_rows.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_index_in_rows.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1)) (m ((c.tc : Thread Cert.GatherRefIdeal.nD Cert.GatherRefIdeal.τ).loc Cert.GatherRefIdeal.main_arg2)) (m ((c.tc : Thread Cert.GatherRefIdeal.nD Cert.GatherRefIdeal.τ).loc Cert.GatherRefIdeal.main_arg3)) (m ((c.tc : Thread Cert.GatherRefIdeal.nD Cert.GatherRefIdeal.τ).loc Cert.GatherRefIdeal.main_arg4)) (m ((c.tc : Thread Cert.GatherRefIdeal.nD Cert.GatherRefIdeal.τ).loc Cert.GatherRefIdeal.main_arg5)) (m ((c.tc : Thread Cert.GatherRefIdeal.nD Cert.GatherRefIdeal.τ).loc Cert.GatherRefIdeal.main_arg6)) (m ((c.tc : Thread Cert.GatherRefIdeal.nD Cert.GatherRefIdeal.τ).loc Cert.GatherRefIdeal.main_arg7)) (m ((c.tc : Thread Cert.GatherRefIdeal.nD Cert.GatherRefIdeal.τ).loc Cert.GatherRefIdeal.main_arg8)) (m ((c.tc : Thread Cert.GatherRefIdeal.nD Cert.GatherRefIdeal.τ).loc Cert.GatherRefIdeal.main_arg9)) (m ((c.tc : Thread Cert.GatherRefIdeal.nD Cert.GatherRefIdeal.τ).loc Cert.GatherRefIdeal.main_arg10))) = (fun _ => 1#1)

def quiescent_Gather [hGather : Cert.Gather.Facts] [hPre_index_in_rows : Cert.Pre_index_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6)
      ∧ r.2.mem ((c.tc : Thread Cert.Gather.nD Cert.Gather.τ).loc Cert.Gather.main_arg7) = m ((c.tc : Thread Cert.Gather.nD Cert.Gather.τ).loc Cert.Gather.main_arg7)
      ∧ r.2.mem ((c.tc : Thread Cert.Gather.nD Cert.Gather.τ).loc Cert.Gather.main_arg8) = m ((c.tc : Thread Cert.Gather.nD Cert.Gather.τ).loc Cert.Gather.main_arg8)
      ∧ r.2.mem ((c.tc : Thread Cert.Gather.nD Cert.Gather.τ).loc Cert.Gather.main_arg9) = m ((c.tc : Thread Cert.Gather.nD Cert.Gather.τ).loc Cert.Gather.main_arg9)
      ∧ r.2.mem ((c.tc : Thread Cert.Gather.nD Cert.Gather.τ).loc Cert.Gather.main_arg10) = m ((c.tc : Thread Cert.Gather.nD Cert.Gather.τ).loc Cert.Gather.main_arg10))
      ∧ r.2.sem = fun _ => 0)

def quiescent_GatherIdeal [hGatherIdeal : Cert.GatherIdeal.Facts] [hPre_index_in_rows : Cert.Pre_index_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
      ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
      ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8)
      ∧ r.2.mem ((c.tc : Thread Cert.GatherIdeal.nD Cert.GatherIdeal.τ).loc Cert.GatherIdeal.main_arg9) = m ((c.tc : Thread Cert.GatherIdeal.nD Cert.GatherIdeal.τ).loc Cert.GatherIdeal.main_arg9)
      ∧ r.2.mem ((c.tc : Thread Cert.GatherIdeal.nD Cert.GatherIdeal.τ).loc Cert.GatherIdeal.main_arg10) = m ((c.tc : Thread Cert.GatherIdeal.nD Cert.GatherIdeal.τ).loc Cert.GatherIdeal.main_arg10))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4)
      ∧ r.2.mem ((c.tc : Thread Cert.GatherRefIdeal.nD Cert.GatherRefIdeal.τ).loc Cert.GatherRefIdeal.main_arg5) = m ((c.tc : Thread Cert.GatherRefIdeal.nD Cert.GatherRefIdeal.τ).loc Cert.GatherRefIdeal.main_arg5)
      ∧ r.2.mem ((c.tc : Thread Cert.GatherRefIdeal.nD Cert.GatherRefIdeal.τ).loc Cert.GatherRefIdeal.main_arg6) = m ((c.tc : Thread Cert.GatherRefIdeal.nD Cert.GatherRefIdeal.τ).loc Cert.GatherRefIdeal.main_arg6)
      ∧ r.2.mem ((c.tc : Thread Cert.GatherRefIdeal.nD Cert.GatherRefIdeal.τ).loc Cert.GatherRefIdeal.main_arg7) = m ((c.tc : Thread Cert.GatherRefIdeal.nD Cert.GatherRefIdeal.τ).loc Cert.GatherRefIdeal.main_arg7)
      ∧ r.2.mem ((c.tc : Thread Cert.GatherRefIdeal.nD Cert.GatherRefIdeal.τ).loc Cert.GatherRefIdeal.main_arg8) = m ((c.tc : Thread Cert.GatherRefIdeal.nD Cert.GatherRefIdeal.τ).loc Cert.GatherRefIdeal.main_arg8)
      ∧ r.2.mem ((c.tc : Thread Cert.GatherRefIdeal.nD Cert.GatherRefIdeal.τ).loc Cert.GatherRefIdeal.main_arg9) = m ((c.tc : Thread Cert.GatherRefIdeal.nD Cert.GatherRefIdeal.τ).loc Cert.GatherRefIdeal.main_arg9)
      ∧ r.2.mem ((c.tc : Thread Cert.GatherRefIdeal.nD Cert.GatherRefIdeal.τ).loc Cert.GatherRefIdeal.main_arg10) = m ((c.tc : Thread Cert.GatherRefIdeal.nD Cert.GatherRefIdeal.τ).loc Cert.GatherRefIdeal.main_arg10))
      ∧ r.2.sem = fun _ => 0)

def quiescent_GatherRefIdeal_pre_index_in_rows [hGatherRefIdeal : Cert.GatherRefIdeal.Facts] [hPre_index_in_rows : Cert.Pre_index_in_rows.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal_index_in_rows m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4)
      ∧ r.2.mem ((c.tc : Thread Cert.GatherRefIdeal.nD Cert.GatherRefIdeal.τ).loc Cert.GatherRefIdeal.main_arg5) = m ((c.tc : Thread Cert.GatherRefIdeal.nD Cert.GatherRefIdeal.τ).loc Cert.GatherRefIdeal.main_arg5)
      ∧ r.2.mem ((c.tc : Thread Cert.GatherRefIdeal.nD Cert.GatherRefIdeal.τ).loc Cert.GatherRefIdeal.main_arg6) = m ((c.tc : Thread Cert.GatherRefIdeal.nD Cert.GatherRefIdeal.τ).loc Cert.GatherRefIdeal.main_arg6)
      ∧ r.2.mem ((c.tc : Thread Cert.GatherRefIdeal.nD Cert.GatherRefIdeal.τ).loc Cert.GatherRefIdeal.main_arg7) = m ((c.tc : Thread Cert.GatherRefIdeal.nD Cert.GatherRefIdeal.τ).loc Cert.GatherRefIdeal.main_arg7)
      ∧ r.2.mem ((c.tc : Thread Cert.GatherRefIdeal.nD Cert.GatherRefIdeal.τ).loc Cert.GatherRefIdeal.main_arg8) = m ((c.tc : Thread Cert.GatherRefIdeal.nD Cert.GatherRefIdeal.τ).loc Cert.GatherRefIdeal.main_arg8)
      ∧ r.2.mem ((c.tc : Thread Cert.GatherRefIdeal.nD Cert.GatherRefIdeal.τ).loc Cert.GatherRefIdeal.main_arg9) = m ((c.tc : Thread Cert.GatherRefIdeal.nD Cert.GatherRefIdeal.τ).loc Cert.GatherRefIdeal.main_arg9)
      ∧ r.2.mem ((c.tc : Thread Cert.GatherRefIdeal.nD Cert.GatherRefIdeal.τ).loc Cert.GatherRefIdeal.main_arg10) = m ((c.tc : Thread Cert.GatherRefIdeal.nD Cert.GatherRefIdeal.τ).loc Cert.GatherRefIdeal.main_arg10))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] [hPre_index_in_rows : Cert.Pre_index_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)
      ∧ m' ((c.tc : Thread Cert.GatherRefIdeal.nD Cert.GatherRefIdeal.τ).loc Cert.GatherRefIdeal.main_arg2) = m ((c.tc : Thread Cert.GatherIdeal.nD Cert.GatherIdeal.τ).loc Cert.GatherIdeal.main_arg2)
      ∧ m' ((c.tc : Thread Cert.GatherRefIdeal.nD Cert.GatherRefIdeal.τ).loc Cert.GatherRefIdeal.main_arg3) = m ((c.tc : Thread Cert.GatherIdeal.nD Cert.GatherIdeal.τ).loc Cert.GatherIdeal.main_arg3)
      ∧ m' ((c.tc : Thread Cert.GatherRefIdeal.nD Cert.GatherRefIdeal.τ).loc Cert.GatherRefIdeal.main_arg4) = m ((c.tc : Thread Cert.GatherIdeal.nD Cert.GatherIdeal.τ).loc Cert.GatherIdeal.main_arg4)
      ∧ m' ((c.tc : Thread Cert.GatherRefIdeal.nD Cert.GatherRefIdeal.τ).loc Cert.GatherRefIdeal.main_arg5) = m ((c.tc : Thread Cert.GatherIdeal.nD Cert.GatherIdeal.τ).loc Cert.GatherIdeal.main_arg5)
      ∧ m' ((c.tc : Thread Cert.GatherRefIdeal.nD Cert.GatherRefIdeal.τ).loc Cert.GatherRefIdeal.main_arg6) = m ((c.tc : Thread Cert.GatherIdeal.nD Cert.GatherIdeal.τ).loc Cert.GatherIdeal.main_arg6)
      ∧ m' ((c.tc : Thread Cert.GatherRefIdeal.nD Cert.GatherRefIdeal.τ).loc Cert.GatherRefIdeal.main_arg7) = m ((c.tc : Thread Cert.GatherIdeal.nD Cert.GatherIdeal.τ).loc Cert.GatherIdeal.main_arg7)
      ∧ m' ((c.tc : Thread Cert.GatherRefIdeal.nD Cert.GatherRefIdeal.τ).loc Cert.GatherRefIdeal.main_arg8) = m ((c.tc : Thread Cert.GatherIdeal.nD Cert.GatherIdeal.τ).loc Cert.GatherIdeal.main_arg8)
      ∧ m' ((c.tc : Thread Cert.GatherRefIdeal.nD Cert.GatherRefIdeal.τ).loc Cert.GatherRefIdeal.main_arg9) = m ((c.tc : Thread Cert.GatherIdeal.nD Cert.GatherIdeal.τ).loc Cert.GatherIdeal.main_arg9)
      ∧ m' ((c.tc : Thread Cert.GatherRefIdeal.nD Cert.GatherRefIdeal.τ).loc Cert.GatherRefIdeal.main_arg10) = m ((c.tc : Thread Cert.GatherIdeal.nD Cert.GatherIdeal.τ).loc Cert.GatherIdeal.main_arg10)) →
    ∃ (v0 : (c : Dev Cert.GatherIdeal.nD) → Buf (Elt Ideal) ((c.tc : Thread Cert.GatherIdeal.nD Cert.GatherIdeal.τ).loc Cert.GatherIdeal.main_v11_1)) (v1 : (c : Dev Cert.GatherIdeal.nD) → Buf (Elt Ideal) ((c.tc : Thread Cert.GatherIdeal.nD Cert.GatherIdeal.τ).loc Cert.GatherIdeal.main_v9)) (v2 : (c : Dev Cert.GatherIdeal.nD) → Buf (Elt Ideal) ((c.tc : Thread Cert.GatherIdeal.nD Cert.GatherIdeal.τ).loc Cert.GatherIdeal.main_v11_0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v11_1) = v0 c
          ∧ r.2.mem ((c.tc : Thread Cert.GatherIdeal.nD Cert.GatherIdeal.τ).loc Cert.GatherIdeal.main_v9) = v1 c
          ∧ r.2.mem ((c.tc : Thread Cert.GatherIdeal.nD Cert.GatherIdeal.τ).loc Cert.GatherIdeal.main_v11_0) = v2 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
          ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8)
          ∧ r.2.mem ((c.tc : Thread Cert.GatherIdeal.nD Cert.GatherIdeal.τ).loc Cert.GatherIdeal.main_arg9) = m ((c.tc : Thread Cert.GatherIdeal.nD Cert.GatherIdeal.τ).loc Cert.GatherIdeal.main_arg9)
          ∧ r.2.mem ((c.tc : Thread Cert.GatherIdeal.nD Cert.GatherIdeal.τ).loc Cert.GatherIdeal.main_arg10) = m ((c.tc : Thread Cert.GatherIdeal.nD Cert.GatherIdeal.τ).loc Cert.GatherIdeal.main_arg10))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v8) = v0 c
          ∧ r.2.mem ((c.tc : Thread Cert.GatherRefIdeal.nD Cert.GatherRefIdeal.τ).loc Cert.GatherRefIdeal.main_v10) = v1 c
          ∧ r.2.mem ((c.tc : Thread Cert.GatherRefIdeal.nD Cert.GatherRefIdeal.τ).loc Cert.GatherRefIdeal.main_v17) = v2 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1)
          ∧ r.2.mem ((c.tc : Thread Cert.GatherRefIdeal.nD Cert.GatherRefIdeal.τ).loc Cert.GatherRefIdeal.main_arg2) = m' ((c.tc : Thread Cert.GatherRefIdeal.nD Cert.GatherRefIdeal.τ).loc Cert.GatherRefIdeal.main_arg2)
          ∧ r.2.mem ((c.tc : Thread Cert.GatherRefIdeal.nD Cert.GatherRefIdeal.τ).loc Cert.GatherRefIdeal.main_arg3) = m' ((c.tc : Thread Cert.GatherRefIdeal.nD Cert.GatherRefIdeal.τ).loc Cert.GatherRefIdeal.main_arg3)
          ∧ r.2.mem ((c.tc : Thread Cert.GatherRefIdeal.nD Cert.GatherRefIdeal.τ).loc Cert.GatherRefIdeal.main_arg4) = m' ((c.tc : Thread Cert.GatherRefIdeal.nD Cert.GatherRefIdeal.τ).loc Cert.GatherRefIdeal.main_arg4)
          ∧ r.2.mem ((c.tc : Thread Cert.GatherRefIdeal.nD Cert.GatherRefIdeal.τ).loc Cert.GatherRefIdeal.main_arg5) = m' ((c.tc : Thread Cert.GatherRefIdeal.nD Cert.GatherRefIdeal.τ).loc Cert.GatherRefIdeal.main_arg5)
          ∧ r.2.mem ((c.tc : Thread Cert.GatherRefIdeal.nD Cert.GatherRefIdeal.τ).loc Cert.GatherRefIdeal.main_arg6) = m' ((c.tc : Thread Cert.GatherRefIdeal.nD Cert.GatherRefIdeal.τ).loc Cert.GatherRefIdeal.main_arg6)
          ∧ r.2.mem ((c.tc : Thread Cert.GatherRefIdeal.nD Cert.GatherRefIdeal.τ).loc Cert.GatherRefIdeal.main_arg7) = m' ((c.tc : Thread Cert.GatherRefIdeal.nD Cert.GatherRefIdeal.τ).loc Cert.GatherRefIdeal.main_arg7)
          ∧ r.2.mem ((c.tc : Thread Cert.GatherRefIdeal.nD Cert.GatherRefIdeal.τ).loc Cert.GatherRefIdeal.main_arg8) = m' ((c.tc : Thread Cert.GatherRefIdeal.nD Cert.GatherRefIdeal.τ).loc Cert.GatherRefIdeal.main_arg8)
          ∧ r.2.mem ((c.tc : Thread Cert.GatherRefIdeal.nD Cert.GatherRefIdeal.τ).loc Cert.GatherRefIdeal.main_arg9) = m' ((c.tc : Thread Cert.GatherRefIdeal.nD Cert.GatherRefIdeal.τ).loc Cert.GatherRefIdeal.main_arg9)
          ∧ r.2.mem ((c.tc : Thread Cert.GatherRefIdeal.nD Cert.GatherRefIdeal.τ).loc Cert.GatherRefIdeal.main_arg10) = m' ((c.tc : Thread Cert.GatherRefIdeal.nD Cert.GatherRefIdeal.τ).loc Cert.GatherRefIdeal.main_arg10))

def Claim : Prop :=
  ∃ (hGather : Cert.Gather.Facts) (hGatherIdeal : Cert.GatherIdeal.Facts) (hGatherRefIdeal : Cert.GatherRefIdeal.Facts) (hPre_index_in_rows : Cert.Pre_index_in_rows.Facts),
    quiescent_Gather (hGather := hGather) (hPre_index_in_rows := hPre_index_in_rows)
    ∧ quiescent_GatherIdeal (hGatherIdeal := hGatherIdeal) (hPre_index_in_rows := hPre_index_in_rows)
    ∧ quiescent_GatherRefIdeal (hGatherRefIdeal := hGatherRefIdeal)
    ∧ quiescent_GatherRefIdeal_pre_index_in_rows (hGatherRefIdeal := hGatherRefIdeal) (hPre_index_in_rows := hPre_index_in_rows)
    ∧ preserves_Gather_GatherIdeal
    ∧ algebraic_GatherIdeal_GatherRefIdeal (hGatherIdeal := hGatherIdeal) (hGatherRefIdeal := hGatherRefIdeal) (hPre_index_in_rows := hPre_index_in_rows)
-- ==== Pre_index_in_rows.lean ====
abbrev S128x64 : Shape := ⟨2, ![128, 64]⟩
abbrev S64x256 : Shape := ⟨2, ![64, 256]⟩
abbrev S256 : Shape := ⟨1, ![256]⟩
abbrev S256x100000 : Shape := ⟨2, ![256, 100000]⟩
abbrev S100000 : Shape := ⟨1, ![100000]⟩
abbrev S100000x64 : Shape := ⟨2, ![100000, 64]⟩
abbrev S64x64 : Shape := ⟨2, ![64, 64]⟩
abbrev S64 : Shape := ⟨1, ![64]⟩
abbrev S128x100000 : Shape := ⟨2, ![128, 100000]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S128x64 .f32) (main_arg1 : FVec F S64x256 .f32) (main_arg2 : FVec F S256 .f32) (main_arg3 : FVec F S256x100000 .f32) (main_arg4 : FVec F S100000 .f32) (main_arg5 : FVec F S100000x64 .f32) (main_arg6 : FVec F S64x64 .f32) (main_arg7 : FVec F S64x64 .f32) (main_arg8 : FVec F S64 .f32) (main_arg9 : FVec F S128x100000 .f32) (main_arg10 : IVec S128 32) : IVec S128 1 :=
  let main_c : IVec S_ 32 := constantI S_ 32 0#32
  let main_v0 : IVec S128 32 := broadcastInDim S128 ![] bcast_S_S128 main_c
  let main_v1 : IVec S128 1 := cmpi .sge main_arg10 main_v0
  let main_c_0 : IVec S_ 32 := constantI S_ 32 100000#32
  let main_v2 : IVec S128 32 := broadcastInDim S128 ![] bcast_S_S128 main_c_0
  let main_v3 : IVec S128 1 := cmpi .slt main_arg10 main_v2
  let main_v4 : IVec S128 1 := andi main_v1 main_v3
  main_v4
-- ==== Gather.lean ====
abbrev S128x64 : Shape := ⟨2, ![128, 64]⟩
abbrev S64x256 : Shape := ⟨2, ![64, 256]⟩
abbrev S256 : Shape := ⟨1, ![256]⟩
abbrev S256x100000 : Shape := ⟨2, ![256, 100000]⟩
abbrev S100000 : Shape := ⟨1, ![100000]⟩
abbrev S100000x64 : Shape := ⟨2, ![100000, 64]⟩
abbrev S64x64 : Shape := ⟨2, ![64, 64]⟩
abbrev S64 : Shape := ⟨1, ![64]⟩
abbrev S128x100000 : Shape := ⟨2, ![128, 100000]⟩
abbrev S128 : Shape := ⟨1, ![128]⟩
abbrev S1x256 : Shape := ⟨2, ![1, 256]⟩
abbrev S1x100000 : Shape := ⟨2, ![1, 100000]⟩
abbrev S1x99968 : Shape := ⟨2, ![1, 99968]⟩
abbrev S256x32 : Shape := ⟨2, ![256, 32]⟩
abbrev S1x32 : Shape := ⟨2, ![1, 32]⟩
abbrev S128x32 : Shape := ⟨2, ![128, 32]⟩
abbrev S128x1 : Shape := ⟨2, ![128, 1]⟩
abbrev S4x256x4096 : Shape := ⟨3, ![4, 256, 4096]⟩
abbrev S4x128x4096 : Shape := ⟨3, ![4, 128, 4096]⟩
abbrev S4 : Shape := ⟨1, ![4]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S1x128x4096 : Shape := ⟨3, ![1, 128, 4096]⟩
abbrev S128x4096 : Shape := ⟨2, ![128, 4096]⟩
abbrev S128x256 : Shape := ⟨2, ![128, 256]⟩
abbrev S1x4096 : Shape := ⟨2, ![1, 4096]⟩
abbrev S1x256x1664 : Shape := ⟨3, ![1, 256, 1664]⟩
abbrev S256x1664 : Shape := ⟨2, ![256, 1664]⟩
abbrev S1x128x1664 : Shape := ⟨3, ![1, 128, 1664]⟩
abbrev S128x1664 : Shape := ⟨2, ![128, 1664]⟩
abbrev S1x1664 : Shape := ⟨2, ![1, 1664]⟩
abbrev S8x16 : Shape := ⟨2, ![8, 16]⟩
abbrev S16 : Shape := ⟨1, ![16]⟩
abbrev S16x64 : Shape := ⟨2, ![16, 64]⟩
abbrev S1x16 : Shape := ⟨2, ![1, 16]⟩
abbrev S1x64 : Shape := ⟨2, ![1, 64]⟩
abbrev S128x128 : Shape := ⟨2, ![128, 128]⟩
abbrev S128x96 : Shape := ⟨2, ![128, 96]⟩

abbrev nBuf : Table → Nat
  | .hbm => 26
  | .local .tc .vmem => 20
  | .local .scVector .vmem => 2
  | _ => 0

abbrev bufTy : (tb : Table) → Fin (nBuf tb) → BufTy
  | .hbm, ⟨0, _⟩ => ⟨S128x64, .f32⟩
  | .hbm, ⟨1, _⟩ => ⟨S64x256, .f32⟩
  | .hbm, ⟨2, _⟩ => ⟨S256, .f32⟩
  | .hbm, ⟨3, _⟩ => ⟨S256x100000, .f32⟩
  | .hbm, ⟨4, _⟩ => ⟨S100000, .f32⟩
  | .hbm, ⟨5, _⟩ => ⟨S100000x64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S128x100000, .f32⟩
  | .hbm, ⟨10, _⟩ => ⟨S128, .i32⟩
  | .hbm, ⟨11, _⟩ => ⟨S1x256, .f32⟩
  | .hbm, ⟨12, _⟩ => ⟨S1x100000, .f32⟩
  | .hbm, ⟨13, _⟩ => ⟨S1x99968, .f32⟩
  | .hbm, ⟨14, _⟩ => ⟨S256x32, .f32⟩
  | .hbm, ⟨15, _⟩ => ⟨S1x100000, .f32⟩
  | .hbm, ⟨16, _⟩ => ⟨S1x32, .f32⟩
  | .hbm, ⟨17, _⟩ => ⟨S128x32, .f32⟩
  | .hbm, ⟨18, _⟩ => ⟨S128x100000, .f32⟩
  | .hbm, ⟨19, _⟩ => ⟨S128x1, .i32⟩
  | .hbm, ⟨20, _⟩ => ⟨S128x32, .f32⟩
  | .hbm, ⟨21, _⟩ => ⟨S8x16, .i32⟩
  | .hbm, ⟨22, _⟩ => ⟨S128x64, .f32⟩
  | .hbm, ⟨23, _⟩ => ⟨S1x64, .f32⟩
  | .hbm, ⟨24, _⟩ => ⟨S128x64, .f32⟩
  | .hbm, ⟨25, _⟩ => ⟨S128x100000, .f32⟩
  | .local .tc .vmem, ⟨0, _⟩ => ⟨S128x64, .f32⟩
  | .local .tc .vmem, ⟨1, _⟩ => ⟨S64x256, .f32⟩
  | .local .tc .vmem, ⟨2, _⟩ => ⟨S1x256, .f32⟩
  | .local .tc .vmem, ⟨3, _⟩ => ⟨S1x99968, .f32⟩
  | .local .tc .vmem, ⟨4, _⟩ => ⟨S256x32, .f32⟩
  | .local .tc .vmem, ⟨5, _⟩ => ⟨S1x32, .f32⟩
  | .local .tc .vmem, ⟨6, _⟩ => ⟨S128x32, .f32⟩
  | .local .tc .vmem, ⟨7, _⟩ => ⟨S128x1, .i32⟩
  | .local .tc .vmem, ⟨8, _⟩ => ⟨S128x32, .f32⟩
  | .local .tc .vmem, ⟨9, _⟩ => ⟨S4x256x4096, .f32⟩
  | .local .tc .vmem, ⟨10, _⟩ => ⟨S4x128x4096, .f32⟩
  | .local .tc .vmem, ⟨11, _⟩ => ⟨S4x128x4096, .f32⟩
  | .local .tc .vmem, ⟨12, _⟩ => ⟨S128x64, .f32⟩
  | .local .tc .vmem, ⟨13, _⟩ => ⟨S128x64, .f32⟩
  | .local .tc .vmem, ⟨14, _⟩ => ⟨S64x64, .f32⟩
  | .local .tc .vmem, ⟨15, _⟩ => ⟨S64x64, .f32⟩
  | .local .tc .vmem, ⟨16, _⟩ => ⟨S1x64, .f32⟩
  | .local .tc .vmem, ⟨17, _⟩ => ⟨S128x32, .f32⟩
  | .local .tc .vmem, ⟨18, _⟩ => ⟨S128x64, .f32⟩
  | .local .tc .vmem, ⟨19, _⟩ => ⟨S128x128, .f32⟩
  | .local .scVector .vmem, ⟨0, _⟩ => ⟨S16, .i32⟩
  | .local .scVector .vmem, ⟨1, _⟩ => ⟨S16x64, .f32⟩
  | _, _ => ⟨S128x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_arg5_scv : Ref sig .scVector := ⟨.hbm, 5, rfl⟩
abbrev main_v8_scv : Ref sig .scVector := ⟨.hbm, 21, rfl⟩
abbrev main_v9_scv : Ref sig .scVector := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x99968 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_147_r0 : BitVec 32 := 0#32
  ![v1.toNat, 0]
def k1_off2 (v8 : BitVec 32) : Fin 2 → Nat :=
  let c0_i32_2 : BitVec 32 := 0#32
  ![v8.toNat, 0]

def k1_off3 (v18 : BitVec 32) : Fin 2 → Nat :=
  let c0_i32_6 : BitVec 32 := 0#32
  ![v18.toNat, 0]

def k1_off4 (v28 : BitVec 32) : Fin 2 → Nat :=
  let c0_i32_11 : BitVec 32 := 0#32
  ![v28.toNat, 0]

def k1_off5 (v38 : BitVec 32) : Fin 2 → Nat :=
  let c0_i32_15 : BitVec 32 := 0#32
  ![v38.toNat, 0]

def k1_off6 (v48 : BitVec 32) : Fin 2 → Nat :=
  let c0_i32_19 : BitVec 32 := 0#32
  ![v48.toNat, 0]

def k1_off7 (v58 : BitVec 32) : Fin 2 → Nat :=
  let c0_i32_23 : BitVec 32 := 0#32
  ![v58.toNat, 0]

def k1_off8 (v68 : BitVec 32) : Fin 2 → Nat :=
  let c0_i32_27 : BitVec 32 := 0#32
  ![v68.toNat, 0]

def k1_off9 (v78 : BitVec 32) : Fin 2 → Nat :=
  let c0_i32_31 : BitVec 32 := 0#32
  ![v78.toNat, 0]

def k1_off10 (v88 : BitVec 32) : Fin 2 → Nat :=
  let c0_i32_36 : BitVec 32 := 0#32
  ![v88.toNat, 0]

def k1_off11 (v98 : BitVec 32) : Fin 2 → Nat :=
  let c0_i32_40 : BitVec 32 := 0#32
  ![v98.toNat, 0]

def k1_off12 (v108 : BitVec 32) : Fin 2 → Nat :=
  let c0_i32_44 : BitVec 32 := 0#32
  ![v108.toNat, 0]

def k1_off13 (v118 : BitVec 32) : Fin 2 → Nat :=
  let c0_i32_48 : BitVec 32 := 0#32
  ![v118.toNat, 0]

def k1_off14 (v128 : BitVec 32) : Fin 2 → Nat :=
  let c0_i32_52 : BitVec 32 := 0#32
  ![v128.toNat, 0]

def k1_off15 (v138 : BitVec 32) : Fin 2 → Nat :=
  let c0_i32_56 : BitVec 32 := 0#32
  ![v138.toNat, 0]

def k1_off16 (v148 : BitVec 32) : Fin 2 → Nat :=
  let c0_i32_60 : BitVec 32 := 0#32
  ![v148.toNat, 0]

def k1_off17 (v158 : BitVec 32) : Fin 2 → Nat :=
  let c0_i32_64 : BitVec 32 := 0#32
  ![v158.toNat, 0]

def k1_chk16 (i : grid1.Coords) (v158 : BitVec 32) : Prop :=
  (∀ (k1_h1 : k1_cond1 i = 1#1), ∀ a, (k1_off17 v158) a + S1x64.size a ≤ S100000x64.size a)
theorem k1_off17_inb : ∀ (i : grid1.Coords) (v158 : BitVec 32) (k1_hw16 : k1_chk16 i v158), ∀ (k1_h1 : k1_cond1 i = 1#1), ∀ a, (k1_off17 v158) a + S1x64.size a ≤ S100000x64.size a := fun i v158 k1_hw16 k1_h1 => k1_hw16 k1_h1

def k1_off18 (v8 : BitVec 32) : Fin 2 → Nat :=
  let c0_i32_69 : BitVec 32 := 0#32
  ![v8.toNat, 0]

def k1_chk1 (i : grid1.Coords) (v8 : BitVec 32) : Prop :=
  (∀ (k1_h1 : k1_cond1 i = 1#1), ∀ a, (k1_off2 v8) a + S1x64.size a ≤ S100000x64.size a) ∧
  (∀ (k1_h1 : k1_cond1 i = 1#1), ∀ a, (k1_off18 v8) a + S1x64.size a ≤ S100000x64.size a)
theorem k1_off2_inb : ∀ (i : grid1.Coords) (v8 : BitVec 32) (k1_hw1 : k1_chk1 i v8), ∀ (k1_h1 : k1_cond1 i = 1#1), ∀ a, (k1_off2 v8) a + S1x64.size a ≤ S100000x64.size a := fun i v8 k1_hw1 k1_h1 => k1_hw1.1 k1_h1
theorem k1_off18_inb : ∀ (i : grid1.Coords) (v8 : BitVec 32) (k1_hw1 : k1_chk1 i v8), ∀ (k1_h1 : k1_cond1 i = 1#1), ∀ a, (k1_off18 v8) a + S1x64.size a ≤ S100000x64.size a := fun i v8 k1_hw1 k1_h1 => k1_hw1.2 k1_h1

def k1_off19 (v18 : BitVec 32) : Fin 2 → Nat :=
  let c0_i32_74 : BitVec 32 := 0#32
  ![v18.toNat, 0]

def k1_chk2 (i : grid1.Coords) (v18 : BitVec 32) : Prop :=
  (∀ (k1_h1 : k1_cond1 i = 1#1), ∀ a, (k1_off3 v18) a + S1x64.size a ≤ S100000x64.size a) ∧
  (∀ (k1_h1 : k1_cond1 i = 1#1), ∀ a, (k1_off19 v18) a + S1x64.size a ≤ S100000x64.size a)
theorem k1_off3_inb : ∀ (i : grid1.Coords) (v18 : BitVec 32) (k1_hw2 : k1_chk2 i v18), ∀ (k1_h1 : k1_cond1 i = 1#1), ∀ a, (k1_off3 v18) a + S1x64.size a ≤ S100000x64.size a := fun i v18 k1_hw2 k1_h1 => k1_hw2.1 k1_h1
theorem k1_off19_inb : ∀ (i : grid1.Coords) (v18 : BitVec 32) (k1_hw2 : k1_chk2 i v18), ∀ (k1_h1 : k1_cond1 i = 1#1), ∀ a, (k1_off19 v18) a + S1x64.size a ≤ S100000x64.size a := fun i v18 k1_hw2 k1_h1 => k1_hw2.2 k1_h1

def k1_off20 (v28 : BitVec 32) : Fin 2 → Nat :=
  let c0_i32_79 : BitVec 32 := 0#32
  ![v28.toNat, 0]

def k1_chk3 (i : grid1.Coords) (v28 : BitVec 32) : Prop :=
  (∀ (k1_h1 : k1_cond1 i = 1#1), ∀ a, (k1_off4 v28) a + S1x64.size a ≤ S100000x64.size a) ∧
  (∀ (k1_h1 : k1_cond1 i = 1#1), ∀ a, (k1_off20 v28) a + S1x64.size a ≤ S100000x64.size a)
theorem k1_off4_inb : ∀ (i : grid1.Coords) (v28 : BitVec 32) (k1_hw3 : k1_chk3 i v28), ∀ (k1_h1 : k1_cond1 i = 1#1), ∀ a, (k1_off4 v28) a + S1x64.size a ≤ S100000x64.size a := fun i v28 k1_hw3 k1_h1 => k1_hw3.1 k1_h1
theorem k1_off20_inb : ∀ (i : grid1.Coords) (v28 : BitVec 32) (k1_hw3 : k1_chk3 i v28), ∀ (k1_h1 : k1_cond1 i = 1#1), ∀ a, (k1_off20 v28) a + S1x64.size a ≤ S100000x64.size a := fun i v28 k1_hw3 k1_h1 => k1_hw3.2 k1_h1

def k1_off21 (v38 : BitVec 32) : Fin 2 → Nat :=
  let c0_i32_84 : BitVec 32 := 0#32
  ![v38.toNat, 0]

def k1_chk4 (i : grid1.Coords) (v38 : BitVec 32) : Prop :=
  (∀ (k1_h1 : k1_cond1 i = 1#1), ∀ a, (k1_off5 v38) a + S1x64.size a ≤ S100000x64.size a) ∧
  (∀ (k1_h1 : k1_cond1 i = 1#1), ∀ a, (k1_off21 v38) a + S1x64.size a ≤ S100000x64.size a)
theorem k1_off5_inb : ∀ (i : grid1.Coords) (v38 : BitVec 32) (k1_hw4 : k1_chk4 i v38), ∀ (k1_h1 : k1_cond1 i = 1#1), ∀ a, (k1_off5 v38) a + S1x64.size a ≤ S100000x64.size a := fun i v38 k1_hw4 k1_h1 => k1_hw4.1 k1_h1
theorem k1_off21_inb : ∀ (i : grid1.Coords) (v38 : BitVec 32) (k1_hw4 : k1_chk4 i v38), ∀ (k1_h1 : k1_cond1 i = 1#1), ∀ a, (k1_off21 v38) a + S1x64.size a ≤ S100000x64.size a := fun i v38 k1_hw4 k1_h1 => k1_hw4.2 k1_h1

def k1_off22 (v48 : BitVec 32) : Fin 2 → Nat :=
  let c0_i32_89 : BitVec 32 := 0#32
  ![v48.toNat, 0]

def k1_chk5 (i : grid1.Coords) (v48 : BitVec 32) : Prop :=
  (∀ (k1_h1 : k1_cond1 i = 1#1), ∀ a, (k1_off6 v48) a + S1x64.size a ≤ S100000x64.size a) ∧
  (∀ (k1_h1 : k1_cond1 i = 1#1), ∀ a, (k1_off22 v48) a + S1x64.size a ≤ S100000x64.size a)
theorem k1_off6_inb : ∀ (i : grid1.Coords) (v48 : BitVec 32) (k1_hw5 : k1_chk5 i v48), ∀ (k1_h1 : k1_cond1 i = 1#1), ∀ a, (k1_off6 v48) a + S1x64.size a ≤ S100000x64.size a := fun i v48 k1_hw5 k1_h1 => k1_hw5.1 k1_h1
theorem k1_off22_inb : ∀ (i : grid1.Coords) (v48 : BitVec 32) (k1_hw5 : k1_chk5 i v48), ∀ (k1_h1 : k1_cond1 i = 1#1), ∀ a, (k1_off22 v48) a + S1x64.size a ≤ S100000x64.size a := fun i v48 k1_hw5 k1_h1 => k1_hw5.2 k1_h1

def k1_off23 (v58 : BitVec 32) : Fin 2 → Nat :=
  let c0_i32_94 : BitVec 32 := 0#32
  ![v58.toNat, 0]

def k1_chk6 (i : grid1.Coords) (v58 : BitVec 32) : Prop :=
  (∀ (k1_h1 : k1_cond1 i = 1#1), ∀ a, (k1_off7 v58) a + S1x64.size a ≤ S100000x64.size a) ∧
  (∀ (k1_h1 : k1_cond1 i = 1#1), ∀ a, (k1_off23 v58) a + S1x64.size a ≤ S100000x64.size a)
theorem k1_off7_inb : ∀ (i : grid1.Coords) (v58 : BitVec 32) (k1_hw6 : k1_chk6 i v58), ∀ (k1_h1 : k1_cond1 i = 1#1), ∀ a, (k1_off7 v58) a + S1x64.size a ≤ S100000x64.size a := fun i v58 k1_hw6 k1_h1 => k1_hw6.1 k1_h1
theorem k1_off23_inb : ∀ (i : grid1.Coords) (v58 : BitVec 32) (k1_hw6 : k1_chk6 i v58), ∀ (k1_h1 : k1_cond1 i = 1#1), ∀ a, (k1_off23 v58) a + S1x64.size a ≤ S100000x64.size a := fun i v58 k1_hw6 k1_h1 => k1_hw6.2 k1_h1

def k1_off24 (v68 : BitVec 32) : Fin 2 → Nat :=
  let c0_i32_99 : BitVec 32 := 0#32
  ![v68.toNat, 0]

def k1_chk7 (i : grid1.Coords) (v68 : BitVec 32) : Prop :=
  (∀ (k1_h1 : k1_cond1 i = 1#1), ∀ a, (k1_off8 v68) a + S1x64.size a ≤ S100000x64.size a) ∧
  (∀ (k1_h1 : k1_cond1 i = 1#1), ∀ a, (k1_off24 v68) a + S1x64.size a ≤ S100000x64.size a)
theorem k1_off8_inb : ∀ (i : grid1.Coords) (v68 : BitVec 32) (k1_hw7 : k1_chk7 i v68), ∀ (k1_h1 : k1_cond1 i = 1#1), ∀ a, (k1_off8 v68) a + S1x64.size a ≤ S100000x64.size a := fun i v68 k1_hw7 k1_h1 => k1_hw7.1 k1_h1
theorem k1_off24_inb : ∀ (i : grid1.Coords) (v68 : BitVec 32) (k1_hw7 : k1_chk7 i v68), ∀ (k1_h1 : k1_cond1 i = 1#1), ∀ a, (k1_off24 v68) a + S1x64.size a ≤ S100000x64.size a := fun i v68 k1_hw7 k1_h1 => k1_hw7.2 k1_h1

def k1_off25 (v78 : BitVec 32) : Fin 2 → Nat :=
  let c0_i32_104 : BitVec 32 := 0#32
  ![v78.toNat, 0]

def k1_chk8 (i : grid1.Coords) (v78 : BitVec 32) : Prop :=
  (∀ (k1_h1 : k1_cond1 i = 1#1), ∀ a, (k1_off9 v78) a + S1x64.size a ≤ S100000x64.size a) ∧
  (∀ (k1_h1 : k1_cond1 i = 1#1), ∀ a, (k1_off25 v78) a + S1x64.size a ≤ S100000x64.size a)
theorem k1_off9_inb : ∀ (i : grid1.Coords) (v78 : BitVec 32) (k1_hw8 : k1_chk8 i v78), ∀ (k1_h1 : k1_cond1 i = 1#1), ∀ a, (k1_off9 v78) a + S1x64.size a ≤ S100000x64.size a := fun i v78 k1_hw8 k1_h1 => k1_hw8.1 k1_h1
theorem k1_off25_inb : ∀ (i : grid1.Coords) (v78 : BitVec 32) (k1_hw8 : k1_chk8 i v78), ∀ (k1_h1 : k1_cond1 i = 1#1), ∀ a, (k1_off25 v78) a + S1x64.size a ≤ S100000x64.size a := fun i v78 k1_hw8 k1_h1 => k1_hw8.2 k1_h1

def k1_off26 (v88 : BitVec 32) : Fin 2 → Nat :=
  let c0_i32_109 : BitVec 32 := 0#32
  ![v88.toNat, 0]

def k1_chk9 (i : grid1.Coords) (v88 : BitVec 32) : Prop :=
  (∀ (k1_h1 : k1_cond1 i = 1#1), ∀ a, (k1_off10 v88) a + S1x64.size a ≤ S100000x64.size a) ∧
  (∀ (k1_h1 : k1_cond1 i = 1#1), ∀ a, (k1_off26 v88) a + S1x64.size a ≤ S100000x64.size a)
theorem k1_off10_inb : ∀ (i : grid1.Coords) (v88 : BitVec 32) (k1_hw9 : k1_chk9 i v88), ∀ (k1_h1 : k1_cond1 i = 1#1), ∀ a, (k1_off10 v88) a + S1x64.size a ≤ S100000x64.size a := fun i v88 k1_hw9 k1_h1 => k1_hw9.1 k1_h1
theorem k1_off26_inb : ∀ (i : grid1.Coords) (v88 : BitVec 32) (k1_hw9 : k1_chk9 i v88), ∀ (k1_h1 : k1_cond1 i = 1#1), ∀ a, (k1_off26 v88) a + S1x64.size a ≤ S100000x64.size a := fun i v88 k1_hw9 k1_h1 => k1_hw9.2 k1_h1

def k1_off27 (v98 : BitVec 32) : Fin 2 → Nat :=
  let c0_i32_114 : BitVec 32 := 0#32
  ![v98.toNat, 0]

def k1_chk10 (i : grid1.Coords) (v98 : BitVec 32) : Prop :=
  (∀ (k1_h1 : k1_cond1 i = 1#1), ∀ a, (k1_off11 v98) a + S1x64.size a ≤ S100000x64.size a) ∧
  (∀ (k1_h1 : k1_cond1 i = 1#1), ∀ a, (k1_off27 v98) a + S1x64.size a ≤ S100000x64.size a)
theorem k1_off11_inb : ∀ (i : grid1.Coords) (v98 : BitVec 32) (k1_hw10 : k1_chk10 i v98), ∀ (k1_h1 : k1_cond1 i = 1#1), ∀ a, (k1_off11 v98) a + S1x64.size a ≤ S100000x64.size a := fun i v98 k1_hw10 k1_h1 => k1_hw10.1 k1_h1
theorem k1_off27_inb : ∀ (i : grid1.Coords) (v98 : BitVec 32) (k1_hw10 : k1_chk10 i v98), ∀ (k1_h1 : k1_cond1 i = 1#1), ∀ a, (k1_off27 v98) a + S1x64.size a ≤ S100000x64.size a := fun i v98 k1_hw10 k1_h1 => k1_hw10.2 k1_h1

def k1_off28 (v108 : BitVec 32) : Fin 2 → Nat :=
  let c0_i32_119 : BitVec 32 := 0#32
  ![v108.toNat, 0]

def k1_chk11 (i : grid1.Coords) (v108 : BitVec 32) : Prop :=
  (∀ (k1_h1 : k1_cond1 i = 1#1), ∀ a, (k1_off12 v108) a + S1x64.size a ≤ S100000x64.size a) ∧
  (∀ (k1_h1 : k1_cond1 i = 1#1), ∀ a, (k1_off28 v108) a + S1x64.size a ≤ S100000x64.size a)
theorem k1_off12_inb : ∀ (i : grid1.Coords) (v108 : BitVec 32) (k1_hw11 : k1_chk11 i v108), ∀ (k1_h1 : k1_cond1 i = 1#1), ∀ a, (k1_off12 v108) a + S1x64.size a ≤ S100000x64.size a := fun i v108 k1_hw11 k1_h1 => k1_hw11.1 k1_h1
theorem k1_off28_inb : ∀ (i : grid1.Coords) (v108 : BitVec 32) (k1_hw11 : k1_chk11 i v108), ∀ (k1_h1 : k1_cond1 i = 1#1), ∀ a, (k1_off28 v108) a + S1x64.size a ≤ S100000x64.size a := fun i v108 k1_hw11 k1_h1 => k1_hw11.2 k1_h1

def k1_off29 (v118 : BitVec 32) : Fin 2 → Nat :=
  let c0_i32_124 : BitVec 32 := 0#32
  ![v118.toNat, 0]

def k1_chk12 (i : grid1.Coords) (v118 : BitVec 32) : Prop :=
  (∀ (k1_h1 : k1_cond1 i = 1#1), ∀ a, (k1_off13 v118) a + S1x64.size a ≤ S100000x64.size a) ∧
  (∀ (k1_h1 : k1_cond1 i = 1#1), ∀ a, (k1_off29 v118) a + S1x64.size a ≤ S100000x64.size a)
theorem k1_off13_inb : ∀ (i : grid1.Coords) (v118 : BitVec 32) (k1_hw12 : k1_chk12 i v118), ∀ (k1_h1 : k1_cond1 i = 1#1), ∀ a, (k1_off13 v118) a + S1x64.size a ≤ S100000x64.size a := fun i v118 k1_hw12 k1_h1 => k1_hw12.1 k1_h1
theorem k1_off29_inb : ∀ (i : grid1.Coords) (v118 : BitVec 32) (k1_hw12 : k1_chk12 i v118), ∀ (k1_h1 : k1_cond1 i = 1#1), ∀ a, (k1_off29 v118) a + S1x64.size a ≤ S100000x64.size a := fun i v118 k1_hw12 k1_h1 => k1_hw12.2 k1_h1

def k1_off30 (v128 : BitVec 32) : Fin 2 → Nat :=
  let c0_i32_129 : BitVec 32 := 0#32
  ![v128.toNat, 0]

def k1_chk13 (i : grid1.Coords) (v128 : BitVec 32) : Prop :=
  (∀ (k1_h1 : k1_cond1 i = 1#1), ∀ a, (k1_off14 v128) a + S1x64.size a ≤ S100000x64.size a) ∧
  (∀ (k1_h1 : k1_cond1 i = 1#1), ∀ a, (k1_off30 v128) a + S1x64.size a ≤ S100000x64.size a)
theorem k1_off14_inb : ∀ (i : grid1.Coords) (v128 : BitVec 32) (k1_hw13 : k1_chk13 i v128), ∀ (k1_h1 : k1_cond1 i = 1#1), ∀ a, (k1_off14 v128) a + S1x64.size a ≤ S100000x64.size a := fun i v128 k1_hw13 k1_h1 => k1_hw13.1 k1_h1
theorem k1_off30_inb : ∀ (i : grid1.Coords) (v128 : BitVec 32) (k1_hw13 : k1_chk13 i v128), ∀ (k1_h1 : k1_cond1 i = 1#1), ∀ a, (k1_off30 v128) a + S1x64.size a ≤ S100000x64.size a := fun i v128 k1_hw13 k1_h1 => k1_hw13.2 k1_h1

def k1_off31 (v138 : BitVec 32) : Fin 2 → Nat :=
  let c0_i32_134 : BitVec 32 := 0#32
  ![v138.toNat, 0]

def k1_chk14 (i : grid1.Coords) (v138 : BitVec 32) : Prop :=
  (∀ (k1_h1 : k1_cond1 i = 1#1), ∀ a, (k1_off15 v138) a + S1x64.size a ≤ S100000x64.size a) ∧
  (∀ (k1_h1 : k1_cond1 i = 1#1), ∀ a, (k1_off31 v138) a + S1x64.size a ≤ S100000x64.size a)
theorem k1_off15_inb : ∀ (i : grid1.Coords) (v138 : BitVec 32) (k1_hw14 : k1_chk14 i v138), ∀ (k1_h1 : k1_cond1 i = 1#1), ∀ a, (k1_off15 v138) a + S1x64.size a ≤ S100000x64.size a := fun i v138 k1_hw14 k1_h1 => k1_hw14.1 k1_h1
theorem k1_off31_inb : ∀ (i : grid1.Coords) (v138 : BitVec 32) (k1_hw14 : k1_chk14 i v138), ∀ (k1_h1 : k1_cond1 i = 1#1), ∀ a, (k1_off31 v138) a + S1x64.size a ≤ S100000x64.size a := fun i v138 k1_hw14 k1_h1 => k1_hw14.2 k1_h1

def k1_off32 (v148 : BitVec 32) : Fin 2 → Nat :=
  let c0_i32_139 : BitVec 32 := 0#32
  ![v148.toNat, 0]

def k1_chk15 (i : grid1.Coords) (v148 : BitVec 32) : Prop :=
  (∀ (k1_h1 : k1_cond1 i = 1#1), ∀ a, (k1_off16 v148) a + S1x64.size a ≤ S100000x64.size a) ∧
  (∀ (k1_h1 : k1_cond1 i = 1#1), ∀ a, (k1_off32 v148) a + S1x64.size a ≤ S100000x64.size a)
theorem k1_off16_inb : ∀ (i : grid1.Coords) (v148 : BitVec 32) (k1_hw15 : k1_chk15 i v148), ∀ (k1_h1 : k1_cond1 i = 1#1), ∀ a, (k1_off16 v148) a + S1x64.size a ≤ S100000x64.size a := fun i v148 k1_hw15 k1_h1 => k1_hw15.1 k1_h1
theorem k1_off32_inb : ∀ (i : grid1.Coords) (v148 : BitVec 32) (k1_hw15 : k1_chk15 i v148), ∀ (k1_h1 : k1_cond1 i = 1#1), ∀ a, (k1_off32 v148) a + S1x64.size a ≤ S100000x64.size a := fun i v148 k1_hw15 k1_h1 => k1_hw15.2 k1_h1

def k1_off33 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v295 : BitVec 32 := Scalar.muli v1 c16_i32
  let c0_i32_147_r1 : BitVec 32 := 0#32
  ![v295.toNat, 0]
abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c781_i32 : BitVec 32 := 781#32
  let c0_i32_0 : BitVec 32 := 0#32
  ![c0_i32.toNat, c781_i32.toNat]

abbrev stage2_0 : Fin 1 → Memref sig .tc .vmem S128x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRefIdeal.lean ====
abbrev S128x64 : Shape := ⟨2, ![128, 64]⟩
abbrev S64x256 : Shape := ⟨2, ![64, 256]⟩
abbrev S256 : Shape := ⟨1, ![256]⟩
abbrev S256x100000 : Shape := ⟨2, ![256, 100000]⟩
abbrev S100000 : Shape := ⟨1, ![100000]⟩
abbrev S100000x64 : Shape := ⟨2, ![100000, 64]⟩
abbrev S64x64 : Shape := ⟨2, ![64, 64]⟩
abbrev S64 : Shape := ⟨1, ![64]⟩
abbrev S128x100000 : Shape := ⟨2, ![128, 100000]⟩
abbrev S128 : Shape := ⟨1, ![128]⟩
abbrev S128x256 : Shape := ⟨2, ![128, 256]⟩
abbrev S1x256 : Shape := ⟨2, ![1, 256]⟩
abbrev S_ : Shape := ⟨0, ![]⟩
abbrev S1x100000 : Shape := ⟨2, ![1, 100000]⟩
abbrev S128x1 : Shape := ⟨2, ![128, 1]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S64x256, .f32⟩
  | .hbm, ⟨2, _⟩ => ⟨S256, .f32⟩
  | .hbm, ⟨3, _⟩ => ⟨S256x100000, .f32⟩
  | .hbm, ⟨4, _⟩ => ⟨S100000, .f32⟩
  | .hbm, ⟨5, _⟩ => ⟨S100000x64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S128x100000, .f32⟩
  | .hbm, ⟨10, _⟩ => ⟨S128, .i32⟩
  | .hbm, ⟨11, _⟩ => ⟨S128x256, .f32⟩
  | .hbm, ⟨12, _⟩ => ⟨S1x256, .f32⟩
  | .hbm, ⟨13, _⟩ => ⟨S128x256, .f32⟩
  | .hbm, ⟨14, _⟩ => ⟨S128x256, .f32⟩
  | .hbm, ⟨15, _⟩ => ⟨S_, .f32⟩
  | .hbm, ⟨16, _⟩ => ⟨S128x256, .f32⟩
  | .hbm, ⟨17, _⟩ => ⟨S128x256, .f32⟩
  | .hbm, ⟨18, _⟩ => ⟨S128x100000, .f32⟩
  | .hbm, ⟨19, _⟩ => ⟨S1x100000, .f32⟩
  | .hbm, ⟨20, _⟩ => ⟨S128x100000, .f32⟩
  | .hbm, ⟨21, _⟩ => ⟨S128x100000, .f32⟩
  | .hbm, ⟨22, _⟩ => ⟨S128x1, .i32⟩
  | .hbm, ⟨23, _⟩ => ⟨S1x100000, .i32⟩
  | .hbm, ⟨24, _⟩ => ⟨S128x100000, .i32⟩
  | .hbm, ⟨25, _⟩ => ⟨S128x100000, .i32⟩
  | .hbm, ⟨26, _⟩ => ⟨S128x100000, .i1⟩
  | .hbm, ⟨27, _⟩ => ⟨S128x100000, .f32⟩
  | .hbm, ⟨28, _⟩ => ⟨S128x64, .f32⟩
  | .hbm, ⟨29, _⟩ => ⟨S128x64, .f32⟩
  | .hbm, ⟨30, _⟩ => ⟨S128x64, .f32⟩
  | .hbm, ⟨31, _⟩ => ⟨S128x64, .f32⟩
  | .hbm, ⟨32, _⟩ => ⟨S1x64, .f32⟩
  | .hbm, ⟨33, _⟩ => ⟨S128x64, .f32⟩
  | .hbm, ⟨34, _⟩ => ⟨S128x64, .f32⟩
  | .hbm, ⟨35, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== Proof.Common.lean ====
/-
  What every module of the proof names: the program as the launch theorem sees it, the resource algebra, the arrays the
  SparseCore call reads and writes, and the array of gathered rows as a function of the row numbers and the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.ValueIdxCoords
public import Idealize.ShloMosaic.Lib.Tactic
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points

@[expose] public section

set_option maxRecDepth 16384

noncomputable section

namespace Cert.Proof.Gath

open Cert.GatherIdeal Cert.GatherIdeal.Gen
open Idealize.ShloMosaic
open Idealize.ShloMosaic.SparseCore (S V T)
open Idealize.SL Idealize.SL.RA Idealize.SL.BI Idealize.SL.Sem
open Idealize.ShloMosaic.Rounds
open Idealize.ShloMosaic.ValueIdx (ix1 ix2)

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := UR sig nD τ
abbrev UU : Type := UH × (UP × Counters)

/-! ## The arrays of the SparseCore call -/

abbrev iLoc (d : Dev nD) : Loc nD τ sig := (SparseCore.T d).loc main_v8
abbrev tLoc (d : Dev nD) : Loc nD τ sig := (SparseCore.T d).loc main_arg5
abbrev oLoc (d : Dev nD) : Loc nD τ sig := (SparseCore.T d).loc main_v9

/-- The rows of block `w` of the gathered array: rows `16 w … 16 w + 15` (none past the eighth block). -/
abbrev oSet (w : ℕ) : Finset S128x64.Idx := Finset.univ.filter fun j => (j 0).val / 16 = w

/-- The row number at place `j` of the 128, as the index array holds it: eight rows of sixteen. -/
abbrev rowNo (ix : S8x16.Idx → BitVec 32) (j : Fin 128) : BitVec 32 :=
  ix (ix2 (n0 := 8) (n1 := 16) ⟨j.val / 16, by omega⟩ ⟨j.val % 16, by omega⟩)

/-- The gathered array: row `j` is the table's row at the `j`-th row number. -/
def gath (ix : S8x16.Idx → BitVec 32) (tb : S100000x64.Idx → Elt F .f32) : S128x64.Idx → Elt F .f32 := fun j =>
  tb (ix2 (n0 := 100000) (n1 := 64) ⟨(rowNo ix (j 0)).toNat % 100000, Nat.mod_lt _ (by decide)⟩ (j 1))

/-- Every row number names a row of the table. -/
def InRows (ix : S8x16.Idx → BitVec 32) : Prop := ∀ j, (ix j).toNat < 100000

end Cert.Proof.Gath

end
-- ==== Proof.Tile.lean ====
/-
  One tile of the SparseCore call: it fetches its row of sixteen row numbers, starts a copy of each named row of the table
  into its row buffer, all sixteen on one semaphore, waits for them all and writes the sixteen rows out to its block.
-/
module

public import proofs.«01_k».proof.Proof.Common

@[expose] public section

set_option maxRecDepth 16384

noncomputable section

namespace Cert.Proof.Gath

open Cert.GatherIdeal Cert.GatherIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

local notation "iV" => (Memref.whole Cert.GatherIdeal.main_v8_scv : Memref Cert.GatherIdeal.sig Kind.scVector Space.hbm Cert.GatherIdeal.S8x16 EltTy.i32)
local notation "tV" => (Memref.whole Cert.GatherIdeal.main_arg5_scv : Memref Cert.GatherIdeal.sig Kind.scVector Space.hbm Cert.GatherIdeal.S100000x64 EltTy.f32)
local notation "oV" => (Memref.whole Cert.GatherIdeal.main_v9_scv : Memref Cert.GatherIdeal.sig Kind.scVector Space.hbm Cert.GatherIdeal.S128x64 EltTy.f32)
local notation "sV" => (Memref.whole Cert.GatherIdeal.cc1_scratch0 : Memref Cert.GatherIdeal.sig Kind.scVector Space.vmem Cert.GatherIdeal.S16 EltTy.i32)
local notation "rV" => (Memref.whole Cert.GatherIdeal.cc1_scratch1 : Memref Cert.GatherIdeal.sig Kind.scVector Space.vmem Cert.GatherIdeal.S16x64 EltTy.f32)

section Tile

variable (d : Dev nD) (L : grid1.Coords)

abbrev cV (L : grid1.Coords) : Fin τ.nSC := (L 0).castLE hcore1
abbrev jV (L : grid1.Coords) : Fin τ.nSub := (L 1).castLE hsub1
/-- The tile's block number: the two SparseCores take the blocks alternately. -/
abbrev wid (L : grid1.Coords) : ℕ := 2 * (L 1).val + (L 0).val

theorem wid_lt : ∀ L : grid1.Coords, k1_cond1 L = 1#1 → wid L < 8 := by decide +kernel
theorem wid_ge : ∀ L : grid1.Coords, ¬k1_cond1 L = 1#1 → 8 ≤ wid L := by decide +kernel

/-! ### The tile's own semaphores and buffers -/

abbrev cellB (d : Dev nD) (c : Fin τ.nSC) (i : Fin τ.nSub) : GSem nD τ sig := (V d c i, .dma cc1_scratch2.sem)
abbrev cellI (d : Dev nD) (c : Fin τ.nSC) (i : Fin τ.nSub) : GSem nD τ sig := (V d c i, .dma cc1_scoped0.sem)
abbrev cellO (d : Dev nD) (c : Fin τ.nSC) (i : Fin τ.nSub) : GSem nD τ sig := (V d c i, .dma cc1_scoped1.sem)

theorem ownSems0_V :
    (ownSems0 (V d (cV L) (jV L)) : sProp 𝕄)
      = iprop(semVal (cellB d (cV L) (jV L)) 0 ∗ semVal (cellI d (cV L) (jV L)) 0 ∗ semVal (cellO d (cV L) (jV L)) 0
          ∗ bigSep ((((ownCells (V d (cV L) (jV L))).erase (cellB d (cV L) (jV L))).erase (cellI d (cV L) (jV L))).erase (cellO d (cV L) (jV L))) fun g => semVal g 0) := by
  unfold SparseCore.Cfg.ownSems0
  rw [SparseCore.bigSep_erase' ((mem_ownCells (g := cellB d (cV L) (jV L))).mpr ⟨rfl, by
      show (SemLoc.dma cc1_scratch2.sem : SemLoc sig).isScoped .scVector = true; decide⟩),
    SparseCore.bigSep_erase' (Finset.mem_erase.mpr ⟨by simp [cellB, cellI]; decide, (mem_ownCells (g := cellI d (cV L) (jV L))).mpr ⟨rfl, by
      show (SemLoc.dma cc1_scoped0.sem : SemLoc sig).isScoped .scVector = true; decide⟩⟩),
    SparseCore.bigSep_erase' (Finset.mem_erase.mpr ⟨by simp [cellI, cellO]; decide, Finset.mem_erase.mpr ⟨by simp [cellB, cellO]; decide,
      (mem_ownCells (g := cellO d (cV L) (jV L))).mpr ⟨rfl, by show (SemLoc.dma cc1_scoped1.sem : SemLoc sig).isScoped .scVector = true; decide⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ### The memrefs -/

/-- The tile's row of the row numbers. -/
abbrev iRow (h : k1_cond1 L = 1#1) : Memref sig .scVector .hbm S16 .i32 :=
  ((iV).slice (Rect.unit (s := S8x16) (k1_off1 L) S1x16.size (k1_off1_inb L h)) (fun _ => rfl)).squeeze S16 squeezes_S1x16_S16
/-- The tile's block of the gathered array. -/
abbrev oBlk (h : k1_cond1 L = 1#1) : Memref sig .scVector .hbm S16x64 .f32 :=
  (oV).slice (Rect.unit (s := S128x64) (k1_off33 L) S16x64.size (k1_off33_inb L h)) (fun _ => rfl)

theorem inb_row (t : Fin 16) : ∀ a, (![t.val, 0] : Fin 2 → ℕ) a + S1x64.size a ≤ S16x64.size a := by
  intro a
  match a with
  | 0 => show t.val + 1 ≤ 16; omega
  | 1 => show 0 + 64 ≤ 64; omega
/-- Row `t` of the row buffer. -/
abbrev dRow (t : Fin 16) : Memref sig .scVector .vmem S64 .f32 :=
  ((rV).slice (Rect.unit (s := S16x64) ![t.val, 0] S1x64.size (inb_row t)) (fun _ => rfl)).squeeze S64 squeezes_S1x64_S64

theorem inb_tab (w : BitVec 32) (hw : w.toNat < 100000) : ∀ a, (![w.toNat, 0] : Fin 2 → ℕ) a + S1x64.size a ≤ S100000x64.size a := by
  intro a
  match a with
  | 0 => show w.toNat + 1 ≤ 100000; omega
  | 1 => show 0 + 64 ≤ 64; omega
/-- The table's row `w`. -/
abbrev sRow (w : BitVec 32) (hw : w.toNat < 100000) : Memref sig .scVector .hbm S64 .f32 :=
  ((tV).slice (Rect.unit (s := S100000x64) ![w.toNat, 0] S1x64.size (inb_tab w hw)) (fun _ => rfl)).squeeze S64 squeezes_S1x64_S64

variable [FloatOps F]
variable (ix : S8x16.Idx → Elt F .i32) (tb : S100000x64.Idx → Elt F .f32) (o0 : S128x64.Idx → Elt F .f32)

theorem pts_iV (q : PosShare TreeShare) (f : Buf (Elt F) (iLoc d)) :
    ((iV).view.loc (V d (cV L) (jV L)) ↦{q} f : sProp 𝕄) = iLoc d ↦{q} f := rfl
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

theorem set_oBlk (h : k1_cond1 L = 1#1) : (oBlk L h).view.set = oSet (wid L) := by
  show ((View.whole (main_v9_scv : Ref sig .scVector)).slice _).set = _
  rw [View.set_slice_whole]
  ext j
  rw [Rect.mem_set_unit, Finset.mem_filter, k1_off33_eq]
  have h1 : (j 1).val < 64 := (j 1).isLt
  constructor
  · intro hj
    have hj : 32 * (L 1).val + 16 * (L 0).val ≤ (j 0).val ∧ (j 0).val < 32 * (L 1).val + 16 * (L 0).val + 16 := hj 0
    refine ⟨Finset.mem_univ _, ?_⟩
    show (j 0).val / 16 = 2 * (L 1).val + (L 0).val
    omega
  · rintro ⟨-, hj⟩ a
    have hj : (j 0).val / 16 = 2 * (L 1).val + (L 0).val := hj
    match a with
    | 0 => show 32 * (L 1).val + 16 * (L 0).val ≤ (j 0).val ∧ (j 0).val < 32 * (L 1).val + 16 * (L 0).val + 16; omega
    | 1 => show 0 ≤ (j 1).val ∧ (j 1).val < 0 + 64; omega

theorem pts_oBlk (h : k1_cond1 L = 1#1) (f : Buf (Elt F) (oLoc d)) :
    ((oBlk L h).view.loc (V d (cV L) (jV L)) ↦[(oBlk L h).view.set]{fullShare} f : sProp 𝕄) = oLoc d ↦[oSet (wid L)]{fullShare} f := by
  rw [set_oBlk]

/-! ### The sixteen words and the rows they name -/

theorem slices_word (t : Fin 16) : S16.Slices ![t.val] S1 := by revert t; decide

/-- The `t`-th of the sixteen row numbers, as the body takes it out of the vector it loaded. -/
def wd (v : IVec S16 32) (t : Fin 16) : BitVec 32 :=
  extractAt ![0] (extractStridedSlice S1 ![t.val] v (slices_word t)) inpos_S1_p0

theorem wd_eq (v : IVec S16 32) (t : Fin 16) : wd v t = v (ix1 (n := 16) t) := by
  unfold wd extractAt extractStridedSlice
  congr 1
  funext a
  match a with
  | 0 => exact Fin.ext (by simp)

/-- What the sixteen copies deliver: row `t` of the row buffer holding the table's row, and the share of the table read. -/
abbrev deliv (q : PosShare TreeShare) (v : IVec S16 32) (hv : ∀ t, (wd v t).toNat < 100000) (fr : Buf (Elt F) ((V d (cV L) (jV L)).loc cc1_scratch1)) (t : Fin 16) : sProp 𝕄 :=
  iprop(((dRow t).view.loc (V d (cV L) (jV L)) ↦[(dRow t).view.set]{fullShare}
      (dRow t).view.writes (Elt F) fr [⟨Rect.whole S64, ReadAs.same.apply ((sRow (wd v t) (hv t)).view.read (Elt F) tb)⟩])
    ∗ ((sRow (wd v t) (hv t)).view.loc (V d (cV L) (jV L)) ↦[(sRow (wd v t) (hv t)).view.set]{Transfers.shareTokN q t.val} tb))

theorem bigSep_16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem sep_shuffle (A B C : sProp 𝕄) : iprop(A ∗ B ∗ C) = iprop((A ∗ C) ∗ B) := by
  have h₁ : (iprop(A ∗ B ∗ C) : sProp 𝕄) ⊢ iprop((A ∗ C) ∗ B) := by
    iintro ⟨H1, H2, H3⟩
    isplitr [H2]; · isplitl [H1] <;> iassumption
    iexact H2
  have h₂ : (iprop((A ∗ C) ∗ B) : sProp 𝕄) ⊢ iprop(A ∗ B ∗ C) := by
    iintro ⟨⟨H1, H3⟩, H2⟩
    isplitl [H1]; · iexact H1
    isplitl [H2] <;> iassumption
  exact BI.Entails.antisymm h₁ h₂

/-- The table's share dealt out: for each of the sixteen copies the row it reads, at a share of its own. -/
theorem deal (q : PosShare TreeShare) (v : IVec S16 32) (hv : ∀ t, (wd v t).toNat < 100000) :
    (tLoc d ↦{q} tb : sProp 𝕄) = iprop(((tLoc d ↦{Transfers.shareDrop q 16} tb)
        ∗ bigSep Finset.univ fun t : Fin 16 => tLoc d ↦[Finset.univ \ (sRow (wd v t) (hv t)).view.set]{Transfers.shareTokN q t.val} tb)
      ∗ bigSep Finset.univ fun t : Fin 16 =>
          (sRow (wd v t) (hv t)).view.loc (V d (cV L) (jV L)) ↦[(sRow (wd v t) (hv t)).view.set]{Transfers.shareTokN q t.val} tb) := by
  have e : (bigSep Finset.univ fun t : Fin 16 => (tLoc d ↦{Transfers.shareTokN q t.val} tb : sProp 𝕄))
      = bigSep Finset.univ fun t : Fin 16 => iprop(((sRow (wd v t) (hv t)).view.loc (V d (cV L) (jV L)) ↦[(sRow (wd v t) (hv t)).view.set]{Transfers.shareTokN q t.val} tb)
          ∗ tLoc d ↦[Finset.univ \ (sRow (wd v t) (hv t)).view.set]{Transfers.shareTokN q t.val} tb) :=
    bigSep_congr fun t _ => BI.Entails.antisymm (pointsTo_split_subset (Finset.subset_univ _)).1 (pointsTo_split_subset (Finset.subset_univ _)).2
  rw [BI.Entails.antisymm (Transfers.pointsTo_toks q 16).1 (Transfers.pointsTo_toks q 16).2, e, bigSep_sep']
  exact sep_shuffle _ _ _

theorem emb_dRow (t : Fin 16) (x : S64.Idx) : (dRow t).view.emb x = ix2 (n0 := 16) (n1 := 64) t (x 0) := by
  show (Rect.unit (s := S16x64) ![t.val, 0] S1x64.size (inb_row t)).emb (Shape.reshapeEquiv squeezes_S1x64_S64.numel_eq x) = _
  have e : Shape.reshapeEquiv squeezes_S1x64_S64.numel_eq x = Fin.cons ⟨0, Nat.one_pos⟩ x := Shape.reshapeEquiv_cons_one _ x
  rw [e]
  funext a
  match a with
  | 0 => exact Fin.ext (by show t.val + 1 * 0 = t.val; omega)
  | 1 => exact Fin.ext (by show 0 + 1 * (x 0).val = (x 0).val; omega)

abbrev dSet (t : Fin 16) : Finset S16x64.Idx := (dRow t).view.set

theorem mem_dRow (t : Fin 16) (i : S16x64.Idx) : i ∈ ((dRow t).view.set : Finset S16x64.Idx) ↔ i 0 = t := by
  constructor
  · intro h
    obtain ⟨x, -, rfl⟩ := Finset.mem_map.mp h
    exact congrFun (emb_dRow t x) 0
  · intro h
    refine Finset.mem_map.mpr ⟨ix1 (n := 64) (i 1), Finset.mem_univ _, ?_⟩
    refine (emb_dRow t _).trans ?_
    subst h
    exact (ValueIdx.eq_ix2 i).symm

theorem drows_disjoint : ∀ i ∈ (Finset.univ : Finset (Fin 16)), ∀ j ∈ (Finset.univ : Finset (Fin 16)), i ≠ j →
    Disjoint ((dRow i).view.set : Finset S16x64.Idx) ((dRow j).view.set : Finset S16x64.Idx) :=
  fun i _ j _ h => Finset.disjoint_left.mpr fun x hi hj => h (((mem_dRow i x).mp hi).symm.trans ((mem_dRow j x).mp hj))
theorem drows_cover : (Finset.univ : Finset (Fin 16)).biUnion dSet = Finset.univ :=
  Finset.eq_univ_iff_forall.mpr fun x => Finset.mem_biUnion.mpr ⟨x 0, Finset.mem_univ _, (mem_dRow _ x).mpr rfl⟩

/-- The row buffer is its sixteen rows. -/
theorem rows (f : Buf (Elt F) ((V d (cV L) (jV L)).loc cc1_scratch1)) :
    ((rV).view.loc (V d (cV L) (jV L)) ↦{fullShare} f : sProp 𝕄)
      = bigSep Finset.univ fun t : Fin 16 => (dRow t).view.loc (V d (cV L) (jV L)) ↦[(dRow t).view.set]{fullShare} f := by
  rw [← pointsTo_biUnion Finset.univ (ℓ := (rV).view.loc (V d (cV L) (jV L))) dSet drows_disjoint, drows_cover]; try rfl

/-! ### What the copies move, element by element -/

theorem emb_sRow (w : BitVec 32) (hw : w.toNat < 100000) (x : S64.Idx) : (sRow w hw).view.emb x = ix2 (n0 := 100000) (n1 := 64) ⟨w.toNat, hw⟩ (x 0) := by
  show (Rect.unit (s := S100000x64) ![w.toNat, 0] S1x64.size (inb_tab w hw)).emb (Shape.reshapeEquiv squeezes_S1x64_S64.numel_eq x) = _
  have e : Shape.reshapeEquiv squeezes_S1x64_S64.numel_eq x = Fin.cons ⟨0, Nat.one_pos⟩ x := Shape.reshapeEquiv_cons_one _ x
  rw [e]
  funext a
  match a with
  | 0 => exact Fin.ext (by show w.toNat + 1 * 0 = w.toNat; omega)
  | 1 => exact Fin.ext (by show 0 + 1 * (x 0).val = (x 0).val; omega)

theorem emb_iRow (h : k1_cond1 L = 1#1) (x : S16.Idx) :
    (iRow L h).view.emb x = ix2 (n0 := 8) (n1 := 16) ⟨wid L, wid_lt L h⟩ (x 0) := by
  show (Rect.unit (s := S8x16) (k1_off1 L) S1x16.size (k1_off1_inb L h)).emb (Shape.reshapeEquiv squeezes_S1x16_S16.numel_eq x) = _
  have e : Shape.reshapeEquiv squeezes_S1x16_S16.numel_eq x = Fin.cons ⟨0, Nat.one_pos⟩ x := Shape.reshapeEquiv_cons_one _ x
  rw [e]
  funext a
  match a with
  | 0 => exact Fin.ext (by show k1_off1 L 0 + 1 * 0 = wid L; rw [k1_off1_eq]; show 2 * (L 1).val + (L 0).val + 1 * 0 = 2 * (L 1).val + (L 0).val; omega)
  | 1 => exact Fin.ext (by show k1_off1 L 1 + 1 * (x 0).val = (x 0).val; rw [k1_off1_eq]; show 0 + 1 * (x 0).val = (x 0).val; omega)

theorem emb_oBlk (h : k1_cond1 L = 1#1) (x : S16x64.Idx) :
    (oBlk L h).view.emb x = ix2 (n0 := 128) (n1 := 64) ⟨16 * wid L + (x 0).val, by have := wid_lt L h; have : (x 0).val < 16 := (x 0).isLt; omega⟩ (x 1) := by
  show (Rect.unit (s := S128x64) (k1_off33 L) S16x64.size (k1_off33_inb L h)).emb x = _
  funext a
  match a with
  | 0 => exact Fin.ext (by show k1_off33 L 0 + 1 * (x 0).val = 16 * (2 * (L 1).val + (L 0).val) + (x 0).val; rw [k1_off33_eq]; show 32 * (L 1).val + 16 * (L 0).val + 1 * (x 0).val = _; omega)
  | 1 => exact Fin.ext (by show k1_off33 L 1 + 1 * (x 1).val = (x 1).val; rw [k1_off33_eq]; show 0 + 1 * (x 1).val = (x 1).val; omega)

/-- What the row buffer holds after the sixteen copies. -/
def gotRows (v : IVec S16 32) (hv : ∀ t, (wd v t).toNat < 100000) : S16x64.Idx → Elt F .f32 := fun j =>
  tb (ix2 (n0 := 100000) (n1 := 64) ⟨(wd v (j 0)).toNat, hv _⟩ (j 1))

theorem landed_row (v : IVec S16 32) (hv : ∀ t, (wd v t).toNat < 100000) (fr : Buf (Elt F) ((V d (cV L) (jV L)).loc cc1_scratch1)) (t : Fin 16) :
    ((dRow t).view.loc (V d (cV L) (jV L)) ↦[(dRow t).view.set]{fullShare}
        (dRow t).view.writes (Elt F) fr [⟨Rect.whole S64, ReadAs.same.apply ((sRow (wd v t) (hv t)).view.read (Elt F) tb)⟩] : sProp 𝕄)
      = (dRow t).view.loc (V d (cV L) (jV L)) ↦[(dRow t).view.set]{fullShare} (gotRows tb v hv : S16x64.Idx → Elt F .f32) := by
  refine pointsTo_congr fun i hi => ?_
  obtain ⟨x, -, rfl⟩ := Finset.mem_map.mp hi
  have e := congrFun (View.read_writes_whole (dRow t).view fr (ReadAs.same.apply ((sRow (wd v t) (hv t)).view.read (Elt F) tb))) x
  refine Eq.trans e ?_
  show tb ((sRow (wd v t) (hv t)).view.emb x) = gotRows tb v hv ((dRow t).view.emb x)
  rw [emb_sRow, emb_dRow]
  rfl

theorem landed_blk (h : k1_cond1 L = 1#1) (v : IVec S16 32) (hv : ∀ t, (wd v t).toNat < 100000)
    (hvi : ∀ t, wd v t = ix (ix2 (n0 := 8) (n1 := 16) ⟨wid L, wid_lt L h⟩ t)) (f : Buf (Elt F) (oLoc d)) :
    ((oBlk L h).view.loc (V d (cV L) (jV L)) ↦[(oBlk L h).view.set]{fullShare}
        (oBlk L h).view.writes (Elt F) f [⟨Rect.whole S16x64, ReadAs.same.apply ((rV).view.read (Elt F) (gotRows tb v hv))⟩] : sProp 𝕄)
      = oLoc d ↦[oSet (wid L)]{fullShare} gath ix tb := by
  rw [← pts_oBlk (F := F) d L h]
  refine pointsTo_congr fun i hi => ?_
  obtain ⟨x, -, rfl⟩ := Finset.mem_map.mp hi
  have e := congrFun (View.read_writes_whole (oBlk L h).view f (ReadAs.same.apply ((rV).view.read (Elt F) (gotRows tb v hv)))) x
  refine Eq.trans e ?_
  show gotRows tb v hv x = gath ix tb ((oBlk L h).view.emb x)
  rw [emb_oBlk]
  have hx : (x 0).val < 16 := (x 0).isLt
  have er : rowNo ix ⟨16 * wid L + (x 0).val, by have := wid_lt L h; omega⟩ = wd v (x 0) := by
    refine Eq.trans ?_ (hvi (x 0)).symm
    unfold rowNo
    congr 1
    funext a
    match a with
    | 0 => exact Fin.ext (by show (16 * wid L + (x 0).val) / 16 = wid L; omega)
    | 1 => exact Fin.ext (by show (16 * wid L + (x 0).val) % 16 = (x 0).val; omega)
  unfold gotRows gath
  congr 1
  funext a
  match a with
  | 0 => exact Fin.ext ((congrArg (fun b : BitVec 32 => b.toNat % 100000) er).trans (Nat.mod_eq_of_lt (hv _))).symm
  | 1 => rfl

set_option maxHeartbeats 4000000 in
theorem tile_run (hix : InRows ix) (q₁ q₂ : PosShare TreeShare)
    (hF : (K (F := F)).Facts) (O : CellTallies nD τ sig (HIx 1)) (W : Waits sig (HIx 1)) (hO : ∀ g, O g none = 0) (h : k1_cond1 L = 1#1) :
    (iprop(levAts (K (F := F)).L (K (F := F)).lev ∗ emp
        ∗ ((iLoc d ↦{q₁} ix) ∗ (tLoc d ↦{q₂} tb) ∗ oLoc d ↦[oSet (wid L)]{fullShare} o0)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_rows L tV (Memref.isWhole_whole _) iV (Memref.isWhole_whole _) oV (Memref.isWhole_whole _)
            sV (Memref.isWhole_whole _) rV (Memref.isWhole_whole _) cc1_scratch2 cc1_scoped0 cc1_scoped1)
          fun _ => iprop(((iLoc d ↦{q₁} ix) ∗ (tLoc d ↦{q₂} tb) ∗ oLoc d ↦[oSet (wid L)]{fullShare} gath ix tb)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_rows_eq_skeleton]; unfold cc1_gather_rows_skel
  rw [dif_pos h]
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemB, HsemI, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ho' := (Entails.of_eq (pts_oBlk (F := F) d L h _).symm) $$ Ho
  ihave Hs' := (Entails.of_eq (pts_sV (F := F) d L _).symm) $$ Hs
  sl_exec
  have hvj : ∀ j : S16.Idx, tile_run.sl.v6 d L ix h fs j = ix (ix2 (n0 := 8) (n1 := 16) ⟨wid L, wid_lt L h⟩ (j 0)) := by
    intro j
    unfold tile_run.sl.v6
    rw [View.write_whole_univ]
    show tile_run.sl.dma0 L ix h _ = _
    unfold tile_run.sl.dma0
    show ix ((iRow L h).view.emb _) = _
    rw [emb_iRow]
    congr 2
    refine Fin.ext ?_
    rw [Shape.reshapeEquiv_self]
    show 0 + 1 * (j 0).val = (j 0).val
    omega
  have hvi : ∀ t, wd (tile_run.sl.v6 d L ix h fs) t = ix (ix2 (n0 := 8) (n1 := 16) ⟨wid L, wid_lt L h⟩ t) := fun t => by
    rw [wd_eq]; exact hvj _
  have hw : ∀ t, (wd (tile_run.sl.v6 d L ix h fs) t).toNat < 100000 := fun t => by rw [hvi]; exact hix _
  have hwb : ∀ (off) (hs : S16.Slices off S1), (extractAt ![0] (extractStridedSlice S1 off (tile_run.sl.v6 d L ix h fs) hs) inpos_S1_p0).toNat < 100000 := fun off hs => by
    show (tile_run.sl.v6 d L ix h fs _).toNat < 100000
    rw [hvj]; exact hix _
  ihave Ht' := (Entails.of_eq (deal (F := F) d L tb q₂ _ hw)) $$ Ht
  icases Ht' with ⟨Hrest, Hrows⟩
  ihave Hr' := (Entails.of_eq (pts_rV (F := F) d L _).symm) $$ Hr
  ihave Hr2 := (Entails.of_eq (rows (F := F) d L _)) $$ Hr'
  ihave Hr3 := (Entails.of_eq (bigSep_16 (F := F) _)) $$ Hr2
  ihave Hrows' := (Entails.of_eq (bigSep_16 (F := F) _)) $$ Hrows
  icases Hr3 with ⟨R0, R1, R2, R3, R4, R5, R6, R7, R8, R9, R10, R11, R12, R13, R14, R15⟩
  icases Hrows' with ⟨T0, T1, T2, T3, T4, T5, T6, T7, T8, T9, T10, T11, T12, T13, T14, T15⟩
  imod (Transfers.batch_alloc' (Lvl := ℕ) (countersEmb (U := UU)) (V d (cV L) (jV L)) (default : HIx 1) ((dRow 0).view.amount (SemLoc.dma (sig := sig) cc1_scratch2.sem))
    (deliv d L tb q₂ _ hw fr) (sm := .dma cc1_scratch2.sem) (E := Set.univ)) $$ HsemB with HB
  sl_exec (disch := first | exact ⟨fun _ => inb_tab _ (hwb _ _), fun _ => inb_tab _ (hwb _ _)⟩ | exact fun _ => inb_tab _ (hwb _ _))
  ihave Hr4 := (Entails.of_eq (bigSep_16 (F := F) (fun t => (dRow t).view.loc (V d (cV L) (jV L)) ↦[(dRow t).view.set]{fullShare}
      (dRow t).view.writes (Elt F) fr [⟨Rect.whole S64, ReadAs.same.apply ((sRow (wd _ t) (hw t)).view.read (Elt F) tb)⟩])).symm) $$ [HB_dst0 HB_dst1 HB_dst2 HB_dst3 HB_dst4 HB_dst5 HB_dst6 HB_dst7 HB_dst8 HB_dst9 HB_dst10 HB_dst11 HB_dst12 HB_dst13 HB_dst14 HB_dst15]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    isplitl [HB_dst7]; · iexact HB_dst7
    isplitl [HB_dst8]; · iexact HB_dst8
    isplitl [HB_dst9]; · iexact HB_dst9
    isplitl [HB_dst10]; · iexact HB_dst10
    isplitl [HB_dst11]; · iexact HB_dst11
    isplitl [HB_dst12]; · iexact HB_dst12
    isplitl [HB_dst13]; · iexact HB_dst13
    isplitl [HB_dst14]; · iexact HB_dst14
    iexact HB_dst15
  ihave Hr5 := (Entails.of_eq ((bigSep_congr fun t _ => landed_row (F := F) d L tb _ hw fr t).trans (rows (F := F) d L _).symm)) $$ Hr4
  ihave Hrows := (Entails.of_eq (bigSep_16 (F := F) (fun t => (sRow (wd _ t) (hw t)).view.loc (V d (cV L) (jV L)) ↦[(sRow (wd _ t) (hw t)).view.set]{Transfers.shareTokN q₂ t.val} tb)).symm) $$ [HB_src0 HB_src1 HB_src2 HB_src3 HB_src4 HB_src5 HB_src6 HB_src7 HB_src8 HB_src9 HB_src10 HB_src11 HB_src12 HB_src13 HB_src14 HB_src15]
  · isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    isplitl [HB_src7]; · iexact HB_src7
    isplitl [HB_src8]; · iexact HB_src8
    isplitl [HB_src9]; · iexact HB_src9
    isplitl [HB_src10]; · iexact HB_src10
    isplitl [HB_src11]; · iexact HB_src11
    isplitl [HB_src12]; · iexact HB_src12
    isplitl [HB_src13]; · iexact HB_src13
    isplitl [HB_src14]; · iexact HB_src14
    iexact HB_src15
  ihave Ht := (Entails.of_eq (deal (F := F) d L tb q₂ _ hw).symm) $$ [Hrest Hrows]; · isplitl [Hrest] <;> iassumption
  sl_exec
  sl_step
  isplitl [Hi' Ht Ho']
  · isplitl [Hi']; · iapply (Entails.of_eq (pts_iV (F := F) d L _ _)); iexact Hi'
    isplitl [Ht]; · iexact Ht
    iapply (Entails.of_eq (landed_blk (F := F) d L ix tb h _ hw hvi o0)); iexact Ho'
  isplitl [Hs' Hr5 Hbufs]
  · isplitl [Hs']; · iexists _; iexact Hs'
    isplitl [Hr5]; · iexists _; iexact Hr5
    iexact Hbufs
  isplitl [HB HsemI HsemO Hsems]
  · isplitl [HB]; · iexact HB
    isplitl [HsemI]; · iexact HsemI
    isplitl [HsemO]; · iexact HsemO
    iexact Hsems
  iexists _; isplitr
  swap; · iexact HO
  ipureintro; intro p hp
  iterate 18 (rcases Finset.mem_insert.mp hp with hp | hp; · exact .inr (hp ▸ rfl))
  exact .inl hp

omit [FloatOps F] in
theorem oSet_empty {w : ℕ} (hw : 8 ≤ w) : oSet w = ∅ :=
  Finset.filter_eq_empty_iff.mpr fun j _ e => by
    have : (j 0).val < 128 := (j 0).isLt
    omega

/-- A tile's task, active or not: its block of the gathered array is filled from the table. -/
theorem tile_body (hix : InRows ix) (q₁ q₂ : PosShare TreeShare)
    (hF : (K (F := F)).Facts) (O : CellTallies nD τ sig (HIx 1)) (W : Waits sig (HIx 1)) (hO : ∀ g, O g none = 0) :
    (iprop(levAts (K (F := F)).L (K (F := F)).lev ∗ emp
        ∗ ((iLoc d ↦{q₁} ix) ∗ (tLoc d ↦{q₂} tb) ∗ oLoc d ↦[oSet (wid L)]{fullShare} o0)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_rows L tV (Memref.isWhole_whole _) iV (Memref.isWhole_whole _) oV (Memref.isWhole_whole _)
            sV (Memref.isWhole_whole _) rV (Memref.isWhole_whole _) cc1_scratch2 cc1_scoped0 cc1_scoped1)
          fun _ => iprop(((iLoc d ↦{q₁} ix) ∗ (tLoc d ↦{q₂} tb) ∗ oLoc d ↦[oSet (wid L)]{fullShare} gath ix tb)
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h : k1_cond1 L = 1#1
  · exact tile_run d L ix tb o0 hix q₁ q₂ hF O W hO h
  have he := oSet_empty (wid_ge L h)
  rw [he]
  simp only [cc1_gather_rows_eq_skeleton]; unfold cc1_gather_rows_skel
  rw [dif_neg h]
  iintro ⟨-, -, ⟨Hi, Ht, Ho⟩, Hb, Hs, HO⟩
  sl_step
  isplitl [Hi Ht Ho]
  · isplitl [Hi]; · iexact Hi
    isplitl [Ht]; · iexact Ht
    iapply (Entails.of_eq (pointsTo_congr (f := o0) (g := gath ix tb) (fun i hi => absurd hi (Finset.notMem_empty i)))); iexact Ho
  isplitl [Hb]; · iexact Hb
  isplitl [Hs]; · iexact Hs
  iexists W; isplitr
  · ipureintro; exact fun p hp => .inl hp
  iexact HO

end Tile

end Cert.Proof.Gath

end
-- ==== Proof.Launch.lean ====
/-
  The SparseCore call's launch: what travels with its handshakes, each tile's obligation, and how a SparseCore's share of
  the arrays splits over its sixteen tiles and joins again.

  Each SparseCore takes a read share of the row numbers and of the table, and the blocks of the gathered array its tiles
  fill (those of its parity); each tile takes a share of its SparseCore's share, and its own block.
-/
module

public import proofs.«01_k».proof.Proof.Tile

@[expose] public section

set_option maxRecDepth 16384

noncomputable section

namespace Cert.Proof.Gath

open Cert.GatherIdeal Cert.GatherIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks_split pointsTo_toks_join)

variable {F : FTy → Type} [FloatOps F]

local notation "𝕄" => MT nD τ sig (HIx 1) (Elt F) ℕ UU ℕ

local notation "iV" => (Memref.whole Cert.GatherIdeal.main_v8_scv : Memref Cert.GatherIdeal.sig Kind.scVector Space.hbm Cert.GatherIdeal.S8x16 EltTy.i32)
local notation "tV" => (Memref.whole Cert.GatherIdeal.main_arg5_scv : Memref Cert.GatherIdeal.sig Kind.scVector Space.hbm Cert.GatherIdeal.S100000x64 EltTy.f32)
local notation "oV" => (Memref.whole Cert.GatherIdeal.main_v9_scv : Memref Cert.GatherIdeal.sig Kind.scVector Space.hbm Cert.GatherIdeal.S128x64 EltTy.f32)
local notation "sV" => (Memref.whole Cert.GatherIdeal.cc1_scratch0 : Memref Cert.GatherIdeal.sig Kind.scVector Space.vmem Cert.GatherIdeal.S16 EltTy.i32)
local notation "rV" => (Memref.whole Cert.GatherIdeal.cc1_scratch1 : Memref Cert.GatherIdeal.sig Kind.scVector Space.vmem Cert.GatherIdeal.S16x64 EltTy.f32)

/-- The handshakes' rounds, the pipelines' rounds: each in its place of the algebra. -/
abbrev EH : Emb UH 𝕄 := embL
def EP : Emb UP 𝕄 := (Emb.inl : Emb UP (UP × Counters)).trans embR

instance EP_landsIn : (EP (F := F)).LandsIn (upEmb : UEmb _ 𝕄) := by
  unfold EP embR; infer_instance

/-! ## The blocks of the gathered array -/

/-- The rows SparseCore `c` fills: every second block. -/
abbrev oCore (c : ℕ) : Finset S128x64.Idx := Finset.univ.filter fun j => (j 0).val / 16 % 2 = c

omit [FloatOps F] in
theorem oCore_tiles (c : Fin 2) : (Finset.univ : Finset (Fin 16)).biUnion (fun i => oSet (2 * i.val + c.val)) = oCore c.val := by
  ext j
  have hj : (j 0).val < 128 := (j 0).isLt
  simp only [Finset.mem_biUnion, Finset.mem_filter, Finset.mem_univ, true_and]
  constructor
  · rintro ⟨i, hi⟩; have := c.isLt; omega
  · intro h; exact ⟨⟨(j 0).val / 32, by omega⟩, by show (j 0).val / 16 = 2 * ((j 0).val / 32) + c.val; omega⟩

omit [FloatOps F] in
theorem oCore_cover : (Finset.univ : Finset (Fin 2)).biUnion (fun c => oCore c.val) = Finset.univ := by
  ext j
  simp only [Finset.mem_biUnion, Finset.mem_filter, Finset.mem_univ, true_and, iff_true]
  exact ⟨⟨(j 0).val / 16 % 2, Nat.mod_lt _ (by decide)⟩, rfl⟩

omit [FloatOps F] in
theorem oPts_tiles (d : Dev nD) (c : Fin 2) (f : Buf (Elt F) (oLoc d)) :
    (oLoc d ↦[oCore c.val]{fullShare} f : sProp 𝕄) = bigSep Finset.univ fun i : Fin 16 => oLoc d ↦[oSet (2 * i.val + c.val)]{fullShare} f := by
  rw [← pointsTo_biUnion Finset.univ (ℓ := oLoc d) (fun i : Fin 16 => oSet (2 * i.val + c.val))
    (fun i _ j _ h => Finset.disjoint_filter.mpr fun x _ h₁ h₂ => h (Fin.ext (by omega)))]
  exact congrArg (fun S => (oLoc d ↦[S]{fullShare} f : sProp 𝕄)) (oCore_tiles c).symm

omit [FloatOps F] in
theorem oPts_cores (d : Dev nD) (f : Buf (Elt F) (oLoc d)) :
    (oLoc d ↦{fullShare} f : sProp 𝕄) = bigSep Finset.univ fun c : Fin 2 => oLoc d ↦[oCore c.val]{fullShare} f := by
  rw [← pointsTo_biUnion Finset.univ (ℓ := oLoc d) (fun c : Fin 2 => oCore c.val)
    (fun i _ j _ h => Finset.disjoint_filter.mpr fun x _ h₁ h₂ => h (Fin.ext (by omega)))]
  exact congrArg (fun S => (oLoc d ↦[S]{fullShare} f : sProp 𝕄)) oCore_cover.symm

/-! ## What travels -/

section Payload

variable (ix : Dev nD → S8x16.Idx → BitVec 32) (tb : Dev nD → S100000x64.Idx → Elt F .f32) (o0 : Dev nD → S128x64.Idx → Elt F .f32)

theorem nCore_zero : (K (F := F)).nCore 0 = 2 := rfl
theorem nSub_zero : (K (F := F)).nSub 0 = 16 := rfl

abbrev coreShare (c : Fin 2) : PosShare TreeShare := shareTok fullShare 2 c
abbrev tileShare (c : Fin 2) (i : Fin 16) : PosShare TreeShare := shareTok (coreShare c) 16 i

/-- SparseCore `c`'s part of the three arrays, the gathered one at `o`; a tile's part of it. -/
abbrev corePts (o : S128x64.Idx → Elt F .f32) (d : Dev nD) (c : Fin 2) : sProp 𝕄 :=
  iprop((iLoc d ↦{coreShare c} ix d) ∗ (tLoc d ↦{coreShare c} tb d) ∗ oLoc d ↦[oCore c.val]{fullShare} o)
abbrev tilePts (o : S128x64.Idx → Elt F .f32) (d : Dev nD) (c : Fin 2) (i : Fin 16) : sProp 𝕄 :=
  iprop((iLoc d ↦{tileShare c i} ix d) ∗ (tLoc d ↦{tileShare c i} tb d) ∗ oLoc d ↦[oSet (2 * i.val + c.val)]{fullShare} o)

/-- The call's handshakes: the arrays out, and back with the gathered rows in place. -/
def P : (K (F := F)).Pay (nD := nD) (Val := Elt F) (Name := ℕ) (U := UU) where
  st := fun q d c => match q with | 0 => corePts ix tb (o0 d) d (Fin.cast nCore_zero c)
  dn := fun q d c => match q with | 0 => corePts ix tb (gath (ix d) (tb d)) d (Fin.cast nCore_zero c)
  go := fun q d c i => match q with | 0 => tilePts ix tb (o0 d) d (Fin.cast nCore_zero c) (Fin.cast nSub_zero i)
  td := fun q d c i => match q with | 0 => tilePts ix tb (gath (ix d) (tb d)) d (Fin.cast nCore_zero c) (Fin.cast nSub_zero i)
  x := fun _ _ => iprop(emp)

instance P_storable : (P (F := F) ix tb o0).IsStorable where
  st q d c := match q with
    | 0 => (inferInstance : BI.Storable (upEmb : UEmb _ 𝕄) (corePts ix tb (o0 d) d (Fin.cast nCore_zero c)))
  dn q d c := match q with
    | 0 => (inferInstance : BI.Storable (upEmb : UEmb _ 𝕄) (corePts ix tb (gath (ix d) (tb d)) d (Fin.cast nCore_zero c)))
  go q d c i := match q with
    | 0 => (inferInstance : BI.Storable (upEmb : UEmb _ 𝕄) (tilePts ix tb (o0 d) d (Fin.cast nCore_zero c) (Fin.cast nSub_zero i)))
  td q d c i := match q with
    | 0 => (inferInstance : BI.Storable (upEmb : UEmb _ 𝕄) (tilePts ix tb (gath (ix d) (tb d)) d (Fin.cast nCore_zero c) (Fin.cast nSub_zero i)))

/-! ## Each tile's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_rows (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hix : ∀ d, InRows (ix d)) : (K (F := F)).TileObl (D (F := F)) 𝒱 (P ix tb o0) v₀ 0 := by
  intro d c i O W hO _ _
  simp only [show (P ix tb o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (ix d) (tb d) (o0 d) (hix d) (tileShare (Fin.cast nCore_zero c) (Fin.cast nSub_zero i))
    (tileShare (Fin.cast nCore_zero c) (Fin.cast nSub_zero i)) hF O W hO).trans (wp_mono frame _ _ fun _ => obl_post)

/-! ## A SparseCore's part, over its tiles -/

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P ix tb o0) 0 := by
  intro d c
  show (corePts ix tb (o0 d) d (Fin.cast nCore_zero c) : sProp 𝕄) ⊢ |={Set.univ}=> iprop(
      (bigSep Finset.univ fun i : Fin ((K (F := F)).nSub 0) => tilePts ix tb (o0 d) d (Fin.cast nCore_zero c) (Fin.cast nSub_zero i))
      ∗ ((bigSep Finset.univ fun i : Fin ((K (F := F)).nSub 0) => tilePts ix tb (gath (ix d) (tb d)) d (Fin.cast nCore_zero c) (Fin.cast nSub_zero i))
          -∗ corePts ix tb (gath (ix d) (tb d)) d (Fin.cast nCore_zero c)))
  rw [bigSep_tiles (F := F) (fun i => tilePts ix tb (o0 d) d (Fin.cast nCore_zero c) i),
    bigSep_tiles (F := F) (fun i => tilePts ix tb (gath (ix d) (tb d)) d (Fin.cast nCore_zero c) i), bigSep_sep', bigSep_sep', bigSep_sep', bigSep_sep',
    ← oPts_tiles, ← oPts_tiles]
  iintro ⟨Hi, Ht, Ho⟩
  ihave Hi := (pointsTo_toks_split (coreShare (Fin.cast nCore_zero c)) 16) $$ Hi
  ihave Ht := (pointsTo_toks_split (coreShare (Fin.cast nCore_zero c)) 16) $$ Ht
  icases Hi with ⟨Hi₀, Hi⟩
  icases Ht with ⟨Ht₀, Ht⟩
  imodintro
  isplitl [Hi Ht Ho]
  · isplitl [Hi]; · iexact Hi
    isplitl [Ht]; · iexact Ht
    iexact Ho
  iintro ⟨Hi, Ht, Ho⟩
  isplitl [Hi Hi₀]; · iapply (pointsTo_toks_join (coreShare (Fin.cast nCore_zero c)) 16); isplitl [Hi₀] <;> iassumption
  isplitl [Ht Ht₀]; · iapply (pointsTo_toks_join (coreShare (Fin.cast nCore_zero c)) 16); isplitl [Ht₀] <;> iassumption
  iexact Ho

/-! ## The three arrays, over the SparseCores -/

/-- The three arrays whole are the SparseCores' parts and what the TensorCore keeps of the row numbers and the table. -/
theorem st_split (d : Dev nD) :
    (iprop((iLoc d ↦{fullShare} ix d) ∗ (tLoc d ↦{fullShare} tb d) ∗ oLoc d ↦{fullShare} o0 d) : sProp 𝕄)
      ⊢ iprop((bigSep Finset.univ fun c : Fin ((K (F := F)).nCore 0) => (P ix tb o0).st 0 d c)
          ∗ (iLoc d ↦{shareDrop fullShare 2} ix d) ∗ tLoc d ↦{shareDrop fullShare 2} tb d) := by
  show _ ⊢ iprop((bigSep Finset.univ fun c : Fin ((K (F := F)).nCore 0) => corePts ix tb (o0 d) d (Fin.cast nCore_zero c)) ∗ _)
  rw [bigSep_cores (F := F) (fun c => corePts ix tb (o0 d) d c), bigSep_sep', bigSep_sep', ← oPts_cores]
  iintro ⟨Hi, Ht, Ho⟩
  ihave Hi := (pointsTo_toks_split fullShare 2) $$ Hi
  ihave Ht := (pointsTo_toks_split fullShare 2) $$ Ht
  icases Hi with ⟨Hi₀, Hi⟩
  icases Ht with ⟨Ht₀, Ht⟩
  isplitl [Hi Ht Ho]
  · isplitl [Hi]; · iexact Hi
    isplitl [Ht]; · iexact Ht
    iexact Ho
  isplitl [Hi₀] <;> iassumption

theorem dn_join (d : Dev nD) :
    (iprop((bigSep Finset.univ fun c : Fin ((K (F := F)).nCore 0) => (P ix tb o0).dn 0 d c)
          ∗ (iLoc d ↦{shareDrop fullShare 2} ix d) ∗ tLoc d ↦{shareDrop fullShare 2} tb d) : sProp 𝕄)
      ⊢ iprop((iLoc d ↦{fullShare} ix d) ∗ (tLoc d ↦{fullShare} tb d) ∗ oLoc d ↦{fullShare} gath (ix d) (tb d)) := by
  show iprop((bigSep Finset.univ fun c : Fin ((K (F := F)).nCore 0) => corePts ix tb (gath (ix d) (tb d)) d (Fin.cast nCore_zero c)) ∗ _) ⊢ _
  rw [bigSep_cores (F := F) (fun c => corePts ix tb (gath (ix d) (tb d)) d c), bigSep_sep', bigSep_sep', ← oPts_cores]
  iintro ⟨⟨Hi, Ht, Ho⟩, Hi₀, Ht₀⟩
  isplitl [Hi Hi₀]; · iapply (pointsTo_toks_join fullShare 2); isplitl [Hi₀] <;> iassumption
  isplitl [Ht Ht₀]; · iapply (pointsTo_toks_join fullShare 2); isplitl [Ht₀] <;> iassumption
  iexact Ho

end Payload

end Cert.Proof.Gath

end
-- ==== Proof.Racy.lean ====
/-
  A buffer that a transfer may be filling while the core reads it. The kernel starts the copy of a later block into a slot
  before it loads the earlier block from that slot, so what the load returns is not determined. The slot's elements are kept
  in an invariant while such a copy flies: the copy's writes and the core's load each open it for one step, and after the
  wait the core takes the elements out again, at whatever they hold.
-/
module

public import proofs.«01_k».proof.Proof.Common

@[expose] public section

set_option maxRecDepth 16384

noncomputable section

namespace Cert.Proof.Gath

open Cert.GatherIdeal Cert.GatherIdeal.Gen
open Idealize.ShloMosaic Idealize.ShloMosaic.TcCoe
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [FloatOps F]

local notation "𝕄" => MT nD τ sig (HIx 1) (Elt F) ℕ UU ℕ

abbrev EC : UEmb Counters 𝕄 := countersEmb

section Racy

variable (c : Thread nD τ) (ℓ : Loc nD τ sig) (S : Finset (Idx ℓ)) (ℓs : Loc nD τ sig) (q : PosShare TreeShare) (fs : Buf (Elt F) ℓs)
  (sm : SemLoc sig)

/-- The slot's elements at some contents, or the two tokens with which they were taken out. -/
def slotBody (ε θ : ℕ) : sProp 𝕄 := iprop((∃ f, ℓ ↦[S]{fullShare} f) ∨ (tok EC ε ∗ tok EC θ))

omit [FloatOps F] in
instance slotBody_storable (ε θ : ℕ) : BI.Storable (upEmb : UEmb _ 𝕄) (slotBody (F := F) ℓ S ε θ) := by
  unfold slotBody; infer_instance

/-- The slot with no copy under way: its elements at some contents, its semaphore at zero, the source's share. -/
def SlotIdle : sProp 𝕄 := iprop((∃ f, ℓ ↦[S]{fullShare} f) ∗ semVal (c, sm) 0 ∗ (ℓs ↦{q} fs))

/-- The slot with a copy of `N` units under way. -/
def SlotBusy (N : ℕ) : sProp 𝕄 :=
  iprop(∃ ε θ κ, ∃ A : Finset (Idx ℓs), inv κ (slotBody (F := F) ℓ S ε θ) ∗ tok EC θ ∗ (ℓs ↦[Finset.univ \ A]{q} fs)
    ∗ Flight EC c sm none N iprop(tok EC ε ∗ (ℓs ↦[A]{q} fs)))

variable {c ℓ S ℓs q fs sm}

end Racy

variable {c : Thread nD τ} {sp sp' : Space} {s : Shape} {e : EltTy}

/-- The writes of a copy into a slot, each opening the invariant for its one step. -/
theorem slot_writes {v : View sig c.2.kind sp s e} {w : s.Idx → Elt F e} {S : Finset (Idx (v.loc c))} (hS : v.set ⊆ S) (κ ε θ : ℕ) :
    iprop(inv κ (slotBody (F := F) (v.loc c) S ε θ) ∗ tok EC ε) ⊢ (writeUpdate c v w (tok EC ε) : sProp 𝕄) := by
  rw [writeUpdate, writeUpdateFrom_def]
  iintro ⟨#Hinv, Hε⟩
  iexists (fun _ => tok EC ε)
  isplitl [Hε]; · iexact Hε
  isplitr
  · rw [writeSteps_def]
    imodintro
    iintro %M %M' Hε
    iapply (atomically_intro_at frame Set.univ (Set.univ \ {κ}) (storeSpec c v w M') _)
    imod (inv_acc (Set.mem_univ κ)) $$ Hinv with ⟨Hb, Hclose⟩
    imodintro
    rw [storeSpec_apply]
    unfold slotBody
    icases Hb with (⟨%f, Hf⟩ | ⟨Hε', Hθ⟩)
    · iexists S, f
      isplitl [Hf]; · iexact Hf
      isplitr; · ipureintro; exact fun i hi => hS (v.setOn_subset_set _ hi)
      iintro Hf
      imod Hclose $$ [Hf]
      · ileft; iexists _; iexact Hf
      imodintro
      iexact Hε
    · iexfalso
      iapply (tok_tok_false EC ε)
      isplitl [Hε] <;> iassumption
  · iintro H; iexact H

/-- With both tokens the core takes the slot's elements out of the invariant. -/
theorem slot_recover (ℓ : Loc nD τ sig) (S : Finset (Idx ℓ)) (κ ε θ : ℕ) :
    iprop(inv κ (slotBody (F := F) ℓ S ε θ) ∗ tok EC ε ∗ tok EC θ) ⊢ |={Set.univ}=> (iprop(∃ f, ℓ ↦[S]{fullShare} f) : sProp 𝕄) := by
  iintro ⟨#Hinv, Hε, Hθ⟩
  imod (inv_acc (Set.mem_univ κ)) $$ Hinv with ⟨Hb, Hclose⟩
  unfold slotBody
  icases Hb with (Hf | ⟨Hε', -⟩)
  · imod Hclose $$ [Hε Hθ]
    · iright; isplitl [Hε] <;> iassumption
    imodintro
    iexact Hf
  · iexfalso
    iapply (tok_tok_false EC ε)
    isplitl [Hε] <;> iassumption

section Rules

variable {Λ : Labels} {defs : Defs nD τ sig (Elt F) Λ} (𝒱' : Variants) (bd : Option 𝒱'.V) {α : Type}
variable {ℓ : Loc nD τ sig} {S : Finset (Idx ℓ)} {ℓs : Loc nD τ sig} {q : PosShare TreeShare} {fs : Buf (Elt F) ℓs}

/-- ISSUE: from an idle slot the core starts a copy into it. -/
theorem slot_issue {Q : α → sProp 𝕄} {s₀ : Shape} {e₀ : EltTy} {src : Memref sig c.2.kind sp s₀ e₀} {via : ReadAs (Elt F) s₀ e₀ s e} {dst : Memref sig c.2.kind sp' s e}
    {sm : SemLoc sig} {hsrc : src.view.WordExact} {hdst : dst.view.WordExact} {hsem : DmaTarget.Typed (nD := nD) sp sm (.here dst)}
    {k : PUnit → Prog (TpuEff nD τ sig (Elt F) Λ c.2) α} {S : Finset (Idx (dst.view.loc c))} {fs : Buf (Elt F) (src.view.loc c)}
    (N : ℕ) (hN : dst.view.amount sm = N) (hN0 : 0 < N) (hS : dst.view.set ⊆ S) :
    (SlotIdle (F := F) c (dst.view.loc c) S (src.view.loc c) q fs sm : sProp 𝕄)
      ⊢ iprop((SlotBusy (F := F) c (dst.view.loc c) S (src.view.loc c) q fs sm N -∗ wp frame (wpE defs 𝒱' c bd) Set.univ (k ⟨⟩) Q)
          -∗ wp frame (wpE defs 𝒱' c bd) Set.univ (.op (.enqueueDmaAs src (.here dst) via sm hsrc hdst hsem) k) Q) := by
  unfold SlotIdle SlotBusy
  iintro ⟨⟨%f, Hf⟩, Hv, Hs⟩ Hk
  imod (count_alloc EC ∅) $$ [] with ⟨%ε, -, -, Hε⟩; · iempintro
  imod (count_alloc EC ∅) $$ [] with ⟨%θ, -, -, Hθ⟩; · iempintro
  imod (inv_alloc (P := slotBody (F := F) (dst.view.loc c) S ε θ) (E := Set.univ)) $$ [Hf] with ⟨%κ', #Hinv⟩
  · unfold slotBody; ileft; iexists _; iexact Hf
  ihave Hs := (pointsTo_split_subset (Finset.subset_univ src.view.set)).1 $$ Hs
  icases Hs with ⟨Hs, Hrest⟩
  imod (flight_alloc EC hN0 iprop(tok EC ε ∗ (src.view.loc c ↦[src.view.set]{q} fs)) (g := (c, sm))) $$ Hv with ⟨%γ, %δ, %κ, #Hfl, Hγ, Hδ⟩
  iapply (wp_enqueueDmaAs 𝒱' c bd Set.univ none N hN) $$ [Hs Hε] [Hγ]
  · isplitl [Hs]; · iexact Hs
    iapply (slot_writes hS κ' ε θ)
    isplitr; · iexact Hinv
    iexact Hε
  · iapply (flight_creditUpdate EC (δ := δ))
    isplitr; · iexact Hfl
    iexact Hγ
  iintro Hcred
  iapply Hk
  iexists ε, θ, κ', src.view.set
  isplitr; · iexact Hinv
  isplitl [Hθ]; · iexact Hθ
  isplitl [Hrest]; · iexact Hrest
  iapply (flight_intro EC c (κ := κ))
  isplitr; · iexact Hfl
  isplitl [Hδ] <;> iassumption

/-- WAIT: the copy over, the slot is idle again. -/
theorem slot_wait {Q : α → sProp 𝕄} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} {N : ℕ} (hN : dstw.view.dmaCredit = N)
    {O : CellTallies nD τ sig (HIx 1)} {W : Waits sig (HIx 1)} :
    iprop(SlotBusy (F := F) c ℓ S ℓs q fs (.dma sem) N ∗ owes c O W ∗ MayWaits c none O)
      ⊢ iprop((iprop(SlotIdle (F := F) c ℓ S ℓs q fs (.dma sem) ∗ owes c O (insert (SemLoc.dma sem, none) W)) -∗ wp frame (wpE defs 𝒱' c bd) Set.univ (k ⟨⟩) Q)
          -∗ wp frame (wpE defs 𝒱' c bd) Set.univ (.op (.waitDma2 sem srcw dstw hsrc hdst) k) Q) := by
  unfold SlotIdle SlotBusy
  iintro ⟨⟨%ε, %θ, %κ, %A, #Hinv, Hθ, Hrest, Hfl⟩, HO, HM⟩ Hk
  iapply (wp_waitLocalO EC 𝒱' c bd none hN) $$ [Hfl HO HM]
  · isplitl [Hfl]; · iexact Hfl
    isplitl [HO]; · iexact HO
    iapply (MayWaits.elim (SemLoc.dma sem)); iexact HM
  iintro ⟨⟨Hε, Hs⟩, Hv, HO⟩
  imod (slot_recover ℓ S κ ε θ) $$ [Hε Hθ] with ⟨%f, Hf⟩
  · isplitr; · iexact Hinv
    isplitl [Hε] <;> iassumption
  iapply Hk
  isplitr [HO]
  · isplitl [Hf]; · iexists _; iexact Hf
    isplitl [Hv]; · iexact Hv
    iapply (pointsTo_split_subset (Finset.subset_univ A)).2
    isplitl [Hs] <;> iassumption
  iexact HO

/-- LOAD with the copy under way: some contents. -/
theorem slot_load {Q : α → sProp 𝕄} {cs : CoreSpace} {m : Memref sig c.2.kind cs s e} {r : LoadRect s} {hl : m.view.LoadsAt r}
    {k : (r.shape.Idx → Elt F e) → Prog (TpuEff nD τ sig (Elt F) Λ c.2) α} {S : Finset (Idx (m.view.loc c))} {sm : SemLoc sig} {N : ℕ}
    (hS : m.view.setOn r.set ⊆ S) :
    (SlotBusy (F := F) c (m.view.loc c) S ℓs q fs sm N : sProp 𝕄)
      ⊢ iprop((∀ x, SlotBusy (F := F) c (m.view.loc c) S ℓs q fs sm N -∗ wp frame (wpE defs 𝒱' c bd) Set.univ (k x) Q)
          -∗ wp frame (wpE defs 𝒱' c bd) Set.univ (.op (.load m r hl) k) Q) := by
  unfold SlotBusy
  iintro ⟨%ε, %θ, %κ, %A, #Hinv, Hθ, Hrest, Hfl⟩ Hk
  iapply (wp_atomically 𝒱' c bd Set.univ)
  iapply (atomically_intro_at frame Set.univ (Set.univ \ {κ}) _ _)
  imod (inv_acc (Set.mem_univ κ)) $$ Hinv with ⟨Hb, Hclose⟩
  imodintro
  unfold slotBody
  icases Hb with (⟨%f, Hf⟩ | ⟨-, Hθ'⟩)
  · iapply (fp_load c hS) $$ Hf
    iintro Hf
    imod Hclose $$ [Hf]
    · ileft; iexists _; iexact Hf
    imodintro
    iapply Hk
    iexists ε, θ, κ, A
    isplitr; · iexact Hinv
    isplitl [Hθ]; · iexact Hθ
    isplitl [Hrest] <;> iassumption
  · iexfalso
    iapply (tok_tok_false EC θ)
    isplitl [Hθ] <;> iassumption

/-- LOAD with no copy under way. -/
theorem slot_load_idle {Q : α → sProp 𝕄} {cs : CoreSpace} {m : Memref sig c.2.kind cs s e} {r : LoadRect s} {hl : m.view.LoadsAt r}
    {k : (r.shape.Idx → Elt F e) → Prog (TpuEff nD τ sig (Elt F) Λ c.2) α} {S : Finset (Idx (m.view.loc c))} {sm : SemLoc sig}
    (hS : m.view.setOn r.set ⊆ S) :
    (SlotIdle (F := F) c (m.view.loc c) S ℓs q fs sm : sProp 𝕄)
      ⊢ iprop((∀ x, SlotIdle (F := F) c (m.view.loc c) S ℓs q fs sm -∗ wp frame (wpE defs 𝒱' c bd) Set.univ (k x) Q)
          -∗ wp frame (wpE defs 𝒱' c bd) Set.univ (.op (.load m r hl) k) Q) := by
  unfold SlotIdle
  iintro ⟨⟨%f, Hf⟩, Hrest⟩ Hk
  iapply (wp_load 𝒱' c bd Set.univ hS) $$ Hf
  iintro Hf
  iapply Hk
  isplitl [Hf]; · iexists _; iexact Hf
  iexact Hrest

end Rules

end Cert.Proof.Gath

end
-- ==== Proof.Ranker.lean ====
/-
  The first TensorCore call's body, run: the logits written block by block through three rings of slots.
-/
module

public import proofs.«01_k».proof.Proof.Racy

@[expose] public section

set_option maxRecDepth 16384

noncomputable section

namespace Cert.Proof.Gath

open Cert.GatherIdeal Cert.GatherIdeal.Gen
open Idealize.ShloMosaic Idealize.ShloMosaic.TcCoe Idealize.ShloMosaic.Tactic
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Transfers

variable {F : FTy → Type} [FloatOps F]

local notation "𝕄" => MT nD τ sig (HIx 1) (Elt F) ℕ UU ℕ

abbrev ctn (c : Dev nD) {sp : Space} {S : Shape} {e : EltTy} (M : Memref sig .tc sp S e) : Type := Buf (Elt F) (M.view.loc (c : Thread nD τ))
abbrev all (c : Dev nD) {sp : Space} {S : Shape} {e : EltTy} (M : Memref sig .tc sp S e) (q : PosShare TreeShare) (f : ctn (F := F) c M) : sProp 𝕄 :=
  M.view.loc (c : Thread nD τ) ↦{q} f
/-- Memref `M`'s buffer held on rectangle `R`. -/
abbrev part (c : Dev nD) {sp : Space} {S : Shape} {e : EltTy} (M : Memref sig .tc sp S e) (R : Rect S) (f : ctn (F := F) c M) : sProp 𝕄 :=
  M.view.loc (c : Thread nD τ) ↦[M.view.setOn R.set]{fullShare} f

/-- The four slots of the ring of weights, and of a ring of 128 rows. -/
abbrev wR0 : Rect S4x256x4096 := Rect.unit (s := S4x256x4096) ![0, 0, 0] S1x256x4096.size inb_S4x256x4096_S1x256x4096_0_0_0
abbrev wR1 : Rect S4x256x4096 := Rect.unit (s := S4x256x4096) ![1, 0, 0] S1x256x4096.size inb_S4x256x4096_S1x256x4096_1_0_0
abbrev wR2 : Rect S4x256x4096 := Rect.unit (s := S4x256x4096) ![2, 0, 0] S1x256x4096.size inb_S4x256x4096_S1x256x4096_2_0_0
abbrev wR3 : Rect S4x256x4096 := Rect.unit (s := S4x256x4096) ![3, 0, 0] S1x256x4096.size inb_S4x256x4096_S1x256x4096_3_0_0
abbrev gR0 : Rect S4x128x4096 := Rect.unit (s := S4x128x4096) ![0, 0, 0] S1x128x4096.size inb_S4x128x4096_S1x128x4096_0_0_0
abbrev gR1 : Rect S4x128x4096 := Rect.unit (s := S4x128x4096) ![1, 0, 0] S1x128x4096.size inb_S4x128x4096_S1x128x4096_1_0_0
abbrev gR2 : Rect S4x128x4096 := Rect.unit (s := S4x128x4096) ![2, 0, 0] S1x128x4096.size inb_S4x128x4096_S1x128x4096_2_0_0
abbrev gR3 : Rect S4x128x4096 := Rect.unit (s := S4x128x4096) ![3, 0, 0] S1x128x4096.size inb_S4x128x4096_S1x128x4096_3_0_0
/-- The four cells of an array of semaphores. -/
abbrev cel0 (A : DmaSems sig S4) : DmaSem sig := ((A.slice (Rect.unit (s := S4) ![0] S1.size inb_S4_S1_0)).squeeze S_ squeezes_S1_S_).sem
abbrev cel1 (A : DmaSems sig S4) : DmaSem sig := ((A.slice (Rect.unit (s := S4) ![1] S1.size inb_S4_S1_1)).squeeze S_ squeezes_S1_S_).sem
abbrev cel2 (A : DmaSems sig S4) : DmaSem sig := ((A.slice (Rect.unit (s := S4) ![2] S1.size inb_S4_S1_2)).squeeze S_ squeezes_S1_S_).sem
abbrev cel3 (A : DmaSems sig S4) : DmaSem sig := ((A.slice (Rect.unit (s := S4) ![3] S1.size inb_S4_S1_3)).squeeze S_ squeezes_S1_S_).sem
abbrev zero (c : Dev nD) (s : DmaSem sig) : sProp 𝕄 := semVal ((c : Thread nD τ), SemLoc.dma s) 0

/-- A slot of the ring of noise, idle, and with a copy under way. -/
def gIdle (c : Dev nD) (M13 : Memref sig .tc .vmem S4x128x4096 .f32) (M8 : Memref sig .tc .hbm S128x100000 .f32) (R : Rect S4x128x4096)
    (s : DmaSem sig) (q : PosShare TreeShare) (f8 : ctn (F := F) c M8) : sProp 𝕄 :=
  SlotIdle (F := F) (c : Thread nD τ) (M13.view.loc (c : Thread nD τ)) (M13.view.setOn R.set) (M8.view.loc (c : Thread nD τ)) q f8 (.dma s)

def gBusy (c : Dev nD) (M13 : Memref sig .tc .vmem S4x128x4096 .f32) (M8 : Memref sig .tc .hbm S128x100000 .f32) (R : Rect S4x128x4096)
    (s : DmaSem sig) (q : PosShare TreeShare) (f8 : ctn (F := F) c M8) (N : ℕ) : sProp 𝕄 :=
  SlotBusy (F := F) (c : Thread nD τ) (M13.view.loc (c : Thread nD τ)) (M13.view.setOn R.set) (M8.view.loc (c : Thread nD τ)) q f8 (.dma s) N

section Gum

variable {c : Dev nD} {M13 : Memref sig .tc .vmem S4x128x4096 .f32} {M8 : Memref sig .tc .hbm S128x100000 .f32} {R : Rect S4x128x4096}
  {s : DmaSem sig} {q : PosShare TreeShare} {f8 : ctn (F := F) c M8} {N : ℕ} {Λ : Labels} {defs : Defs nD τ sig (Elt F) Λ} {α : Type}

theorem gum_issue (R : Rect S4x128x4096) {Q : α → sProp 𝕄} {r : Rect S128x100000} {hr : ∀ a, r.stride a = 1} {r' : Rect S4x128x4096} {hr' : ∀ a, r'.stride a = 1}
    {hq : r'.shape.Squeezes r.shape} {via : ReadAs (Elt F) r.shape .f32 r.shape .f32}
    {hsrc : (M8.slice r hr).view.WordExact} {hdst : ((M13.slice r' hr').squeeze r.shape hq).view.WordExact}
    {hsem : DmaTarget.Typed (nD := nD) (p := (c : Thread nD τ).2) .hbm (SemLoc.dma s) (.here ((M13.slice r' hr').squeeze r.shape hq))}
    {k : PUnit → Prog (TpuEff nD τ sig (Elt F) Λ (c : Thread nD τ).2) α}
    (N : ℕ) (hN : ((M13.slice r' hr').squeeze r.shape hq).view.dmaCredit = N) (hN0 : 0 < N) (hw : LoadRect.within R r'.toLoadRect = true) :
    (gIdle c M13 M8 R s q f8 : sProp 𝕄)
      ⊢ iprop((gBusy c M13 M8 R s q f8 N -∗ wp frame (wpE defs Variants.none (c : Thread nD τ) none) Set.univ (k ⟨⟩) Q)
          -∗ wp frame (wpE defs Variants.none (c : Thread nD τ) none) Set.univ
            (.op (.enqueueDmaAs (M8.slice r hr) (.here ((M13.slice r' hr').squeeze r.shape hq)) via (SemLoc.dma s) hsrc hdst hsem) k) Q) :=
  slot_issue (c := (c : Thread nD τ)) (dst := (M13.slice r' hr').squeeze r.shape hq) (src := M8.slice r hr) (S := M13.view.setOn R.set)
    Variants.none none N hN hN0 ((Memref.set_view_squeeze _ hq).le.trans (Memref.set_slice_subset_setOn_of_within M13 R r' hr' hw))

theorem gum_wait {Q : α → sProp 𝕄} {r : Rect S128x100000} {hr : ∀ a, r.stride a = 1} {r' : Rect S4x128x4096} {hr' : ∀ a, r'.stride a = 1}
    {hq : r'.shape.Squeezes r.shape}
    {hsrc : (M8.slice r hr).view.WordExact} {hdst : ((M13.slice r' hr').squeeze r.shape hq).view.WordExact}
    {k : PUnit → Prog (TpuEff nD τ sig (Elt F) Λ (c : Thread nD τ).2) α}
    (hN : ((M13.slice r' hr').squeeze r.shape hq).view.dmaCredit = N) {O : CellTallies nD τ sig (HIx 1)} {W : Waits sig (HIx 1)} :
    iprop(gBusy c M13 M8 R s q f8 N ∗ owes (c : Thread nD τ) O W ∗ MayWaits (c : Thread nD τ) none O : sProp 𝕄)
      ⊢ iprop((iprop(gIdle c M13 M8 R s q f8 ∗ owes (c : Thread nD τ) O (insert (SemLoc.dma s, none) W))
            -∗ wp frame (wpE defs Variants.none (c : Thread nD τ) none) Set.univ (k ⟨⟩) Q)
          -∗ wp frame (wpE defs Variants.none (c : Thread nD τ) none) Set.univ
            (.op (.waitDma2 s (M8.slice r hr) ((M13.slice r' hr').squeeze r.shape hq) hsrc hdst) k) Q) :=
  slot_wait (c := (c : Thread nD τ)) Variants.none none hN

theorem gum_load {Q : α → sProp 𝕄} {r : LoadRect S4x128x4096} {hl : M13.view.LoadsAt r}
    {k : (r.shape.Idx → Elt F .f32) → Prog (TpuEff nD τ sig (Elt F) Λ (c : Thread nD τ).2) α} (hw : LoadRect.within R r = true) :
    (gBusy c M13 M8 R s q f8 N : sProp 𝕄)
      ⊢ iprop((∀ x, gBusy c M13 M8 R s q f8 N -∗ wp frame (wpE defs Variants.none (c : Thread nD τ) none) Set.univ (k x) Q)
          -∗ wp frame (wpE defs Variants.none (c : Thread nD τ) none) Set.univ (.op (.load M13 r hl) k) Q) :=
  slot_load (c := (c : Thread nD τ)) Variants.none none (Finset.map_subset_map.mpr (LoadRect.set_subset_of_within hw))

theorem gum_load_idle {Q : α → sProp 𝕄} {r : LoadRect S4x128x4096} {hl : M13.view.LoadsAt r}
    {k : (r.shape.Idx → Elt F .f32) → Prog (TpuEff nD τ sig (Elt F) Λ (c : Thread nD τ).2) α} (hw : LoadRect.within R r = true) :
    (gIdle c M13 M8 R s q f8 : sProp 𝕄)
      ⊢ iprop((∀ x, gIdle c M13 M8 R s q f8 -∗ wp frame (wpE defs Variants.none (c : Thread nD τ) none) Set.univ (k x) Q)
          -∗ wp frame (wpE defs Variants.none (c : Thread nD τ) none) Set.univ (.op (.load M13 r hl) k) Q) :=
  slot_load_idle (c := (c : Thread nD τ)) Variants.none none (Finset.map_subset_map.mpr (LoadRect.set_subset_of_within hw))

theorem ret_bind_wp {β : Type} {Q : α → sProp 𝕄} {x : β} {k : β → Prog (TpuEff nD τ sig (Elt F) Λ (c : Thread nD τ).2) α} :
    (wp frame (wpE defs Variants.none (c : Thread nD τ) none) Set.univ (k x) Q : sProp 𝕄)
      ⊢ wp frame (wpE defs Variants.none (c : Thread nD τ) none) Set.univ ((Prog.ret x).bind k) Q := BI.Entails.refl _

end Gum

theorem noted_insert {W₀ W : Waits sig (HIx 1)} (h : ∀ p ∈ W, p ∈ W₀ ∨ p.2 = none) (s : SemLoc sig) :
    ∀ p ∈ (insert (s, none) W : Waits sig (HIx 1)), p ∈ W₀ ∨ p.2 = none := fun p hp => by
  rcases Finset.mem_insert.mp hp with rfl | hp
  · exact Or.inr rfl
  · exact h p hp

set_option maxHeartbeats 8000000 in
set_option sl_exec.dmaWindow true in
/-- What the body leaves in the logits array and in the tail's staging buffer, with the proof that the body runs to its
    return from its operands, the slots of its rings and its semaphores at zero. -/
def rankerRun (c : Dev nD)
    (M0 : Memref sig .tc .vmem S128x64 .f32) (h0 : M0.IsWhole) (M1 : Memref sig .tc .vmem S64x256 .f32) (h1 : M1.IsWhole)
    (M2 : Memref sig .tc .vmem S1x256 .f32) (h2 : M2.IsWhole) (M3 : Memref sig .tc .vmem S1x99968 .f32) (h3 : M3.IsWhole)
    (M4 : Memref sig .tc .vmem S256x32 .f32) (h4 : M4.IsWhole) (M5 : Memref sig .tc .vmem S1x32 .f32) (h5 : M5.IsWhole)
    (M6 : Memref sig .tc .vmem S128x32 .f32) (h6 : M6.IsWhole) (M7 : Memref sig .tc .hbm S256x100000 .f32) (h7 : M7.IsWhole)
    (M8 : Memref sig .tc .hbm S128x100000 .f32) (h8 : M8.IsWhole) (M9 : Memref sig .tc .hbm S128x100000 .f32) (h9 : M9.IsWhole)
    (M10 : Memref sig .tc .vmem S128x1 .i32) (h10 : M10.IsWhole) (M11 : Memref sig .tc .vmem S128x32 .f32) (h11 : M11.IsWhole)
    (M12 : Memref sig .tc .vmem S4x256x4096 .f32) (h12 : M12.IsWhole) (M13 : Memref sig .tc .vmem S4x128x4096 .f32) (h13 : M13.IsWhole)
    (M14 : Memref sig .tc .vmem S4x128x4096 .f32) (h14 : M14.IsWhole) (A15 A16 A17 : DmaSems sig S4)
    (f0 : ctn (F := F) c M0) (f1 : ctn (F := F) c M1) (f2 : ctn (F := F) c M2) (f3 : ctn (F := F) c M3) (f4 : ctn (F := F) c M4)
    (f5 : ctn (F := F) c M5) (f7 : ctn (F := F) c M7) (f9 : ctn (F := F) c M9) (f12 : ctn (F := F) c M12) (f14 : ctn (F := F) c M14) :
    { R : ctn (F := F) c M9 × ctn (F := F) c M11 // ∀ (f6 : ctn (F := F) c M6) (f8 : ctn (F := F) c M8) (f10 : ctn (F := F) c M10) (f11 : ctn (F := F) c M11)
        (O : CellTallies nD τ sig (HIx 1)) (W : Waits sig (HIx 1)) (Q : PUnit → sProp 𝕄),
        iprop(MayWaits (c : Thread nD τ) none O ∗ owes (c : Thread nD τ) O W
            ∗ all c M0 fullShare f0 ∗ all c M1 fullShare f1 ∗ all c M2 fullShare f2 ∗ all c M3 fullShare f3
            ∗ all c M4 fullShare f4 ∗ all c M5 fullShare f5 ∗ all c M6 fullShare f6
            ∗ all c M7 (shareTokN fullShare 0) f7 ∗ all c M7 (shareTokN fullShare 1) f7 ∗ all c M7 (shareTokN fullShare 2) f7 ∗ all c M7 (shareTokN fullShare 3) f7
            ∗ all c M9 fullShare f9 ∗ all c M10 fullShare f10 ∗ all c M11 fullShare f11
            ∗ part c M12 wR0 f12 ∗ part c M12 wR1 f12 ∗ part c M12 wR2 f12 ∗ part c M12 wR3 f12
            ∗ part c M14 gR0 f14 ∗ part c M14 gR1 f14 ∗ part c M14 gR2 f14 ∗ part c M14 gR3 f14
            ∗ zero c (cel0 A15) ∗ zero c (cel1 A15) ∗ zero c (cel2 A15) ∗ zero c (cel3 A15)
            ∗ zero c (cel0 A17) ∗ zero c (cel1 A17) ∗ zero c (cel2 A17) ∗ zero c (cel3 A17)
            ∗ gIdle c M13 M8 gR0 (cel0 A16) (shareTokN fullShare 0) f8 ∗ gIdle c M13 M8 gR1 (cel1 A16) (shareTokN fullShare 1) f8
            ∗ gIdle c M13 M8 gR2 (cel2 A16) (shareTokN fullShare 2) f8 ∗ gIdle c M13 M8 gR3 (cel3 A16) (shareTokN fullShare 3) f8
            ∗ (iprop((∃ W', ⌜∀ p ∈ W', p ∈ W ∨ p.2 = none⌝ ∗ owes (c : Thread nD τ) O W')
                ∗ all c M0 fullShare f0 ∗ all c M1 fullShare f1 ∗ all c M2 fullShare f2 ∗ all c M3 fullShare f3
                ∗ all c M4 fullShare f4 ∗ all c M5 fullShare f5 ∗ all c M6 fullShare f6
                ∗ all c M7 (shareTokN fullShare 0) f7 ∗ all c M7 (shareTokN fullShare 1) f7 ∗ all c M7 (shareTokN fullShare 2) f7 ∗ all c M7 (shareTokN fullShare 3) f7
                ∗ all c M9 fullShare R.1 ∗ (∃ f, all c M10 fullShare f) ∗ all c M11 fullShare R.2
                ∗ (∃ f, part c M12 wR0 f) ∗ (∃ f, part c M12 wR1 f) ∗ (∃ f, part c M12 wR2 f) ∗ (∃ f, part c M12 wR3 f)
                ∗ (∃ f, part c M14 gR0 f) ∗ (∃ f, part c M14 gR1 f) ∗ (∃ f, part c M14 gR2 f) ∗ (∃ f, part c M14 gR3 f)
                ∗ zero c (cel0 A15) ∗ zero c (cel1 A15) ∗ zero c (cel2 A15) ∗ zero c (cel3 A15)
                ∗ zero c (cel0 A17) ∗ zero c (cel1 A17) ∗ zero c (cel2 A17) ∗ zero c (cel3 A17)
                ∗ gIdle c M13 M8 gR0 (cel0 A16) (shareTokN fullShare 0) f8 ∗ gIdle c M13 M8 gR1 (cel1 A16) (shareTokN fullShare 1) f8
                ∗ gIdle c M13 M8 gR2 (cel2 A16) (shareTokN fullShare 2) f8 ∗ gIdle c M13 M8 gR3 (cel3 A16) (shareTokN fullShare 3) f8) -∗ Q ⟨⟩))
          ⊢ wp frame (wpE (defs₀ (F := F)) Variants.none (c : Thread nD τ) none) Set.univ
              (cc0__logits_argmax_body M0 h0 M1 h1 M2 h2 M3 h3 M4 h4 M5 h5 M6 h6 M7 h7 M8 h8 M9 h9 M10 h10 M11 h11 M12 h12 M13 h13 M14 h14 A15 A16 A17) Q } := by
  refine ⟨⟨?_, ?_⟩, fun f6 f8 f10 f11 O W Q => ?run⟩
  case run =>
    rw [cc0__logits_argmax_body_eq_skeleton]
    iintro ⟨#HM, HO, H0, H1, H2, H3, H4, H5, H6, H70, H71, H72, H73, H9, H10, H11, HW0, HW1, HW2, HW3, HU0, HU1, HU2, HU3,
      Hs0, Hs1, Hs2, Hs3, Ht0, Ht1, Ht2, Ht3, HG0, HG1, HG2, HG3, Hk⟩
    sl_exec
    iapply (gum_issue (R := gR0) _ rfl (View.dmaCredit_pos _ (by decide)) (by decide)) $$ HG0; iintro HG0
    sl_exec
    iapply (gum_issue (R := gR1) _ rfl (View.dmaCredit_pos _ (by decide)) (by decide)) $$ HG1; iintro HG1
    sl_exec
    iapply (gum_issue (R := gR2) _ rfl (View.dmaCredit_pos _ (by decide)) (by decide)) $$ HG2; iintro HG2
    sl_exec
    iapply (gum_issue (R := gR3) _ rfl (View.dmaCredit_pos _ (by decide)) (by decide)) $$ HG3; iintro HG3
    sl_exec
    iterate 5
      iapply (gum_wait rfl) $$ [HG0 HO]
      · isplitl [HG0]; · iexact HG0
        isplitl [HO]; · iexact HO
        iexact HM
      iintro ⟨HG0, HO⟩
      sl_exec
      iapply (gum_issue (R := gR0) _ rfl (View.dmaCredit_pos _ (by decide)) (by decide)) $$ HG0; iintro HG0
      try sl_exec
      iapply (gum_load (R := gR0) (by decide)) $$ HG0; iintro %x HG0; try iapply ret_bind_wp
      sl_exec
      iapply (gum_wait rfl) $$ [HG1 HO]
      · isplitl [HG1]; · iexact HG1
        isplitl [HO]; · iexact HO
        iexact HM
      iintro ⟨HG1, HO⟩
      sl_exec
      iapply (gum_issue (R := gR1) _ rfl (View.dmaCredit_pos _ (by decide)) (by decide)) $$ HG1; iintro HG1
      try sl_exec
      iapply (gum_load (R := gR1) (by decide)) $$ HG1; iintro %x HG1; try iapply ret_bind_wp
      sl_exec
      iapply (gum_wait rfl) $$ [HG2 HO]
      · isplitl [HG2]; · iexact HG2
        isplitl [HO]; · iexact HO
        iexact HM
      iintro ⟨HG2, HO⟩
      sl_exec
      iapply (gum_issue (R := gR2) _ rfl (View.dmaCredit_pos _ (by decide)) (by decide)) $$ HG2; iintro HG2
      try sl_exec
      iapply (gum_load (R := gR2) (by decide)) $$ HG2; iintro %x HG2; try iapply ret_bind_wp
      sl_exec
      iapply (gum_wait rfl) $$ [HG3 HO]
      · isplitl [HG3]; · iexact HG3
        isplitl [HO]; · iexact HO
        iexact HM
      iintro ⟨HG3, HO⟩
      sl_exec
      iapply (gum_issue (R := gR3) _ rfl (View.dmaCredit_pos _ (by decide)) (by decide)) $$ HG3; iintro HG3
      try sl_exec
      iapply (gum_load (R := gR3) (by decide)) $$ HG3; iintro %x HG3; try iapply ret_bind_wp
      sl_exec
    iapply (gum_wait rfl) $$ [HG0 HO]
    · isplitl [HG0]; · iexact HG0
      isplitl [HO]; · iexact HO
      iexact HM
    iintro ⟨HG0, HO⟩
    sl_exec
    iapply (gum_issue (R := gR0) _ rfl (View.dmaCredit_pos _ (by decide)) (by decide)) $$ HG0; iintro HG0
    try sl_exec
    iapply (gum_load (R := gR0) (by decide)) $$ HG0; iintro %x HG0; try iapply ret_bind_wp
    sl_exec
    iapply (gum_wait rfl) $$ [HG1 HO]
    · isplitl [HG1]; · iexact HG1
      isplitl [HO]; · iexact HO
      iexact HM
    iintro ⟨HG1, HO⟩
    sl_exec
    iapply (gum_load_idle (R := gR1) (by decide)) $$ HG1; iintro %x HG1; try iapply ret_bind_wp
    sl_exec
    iapply (gum_wait rfl) $$ [HG2 HO]
    · isplitl [HG2]; · iexact HG2
      isplitl [HO]; · iexact HO
      iexact HM
    iintro ⟨HG2, HO⟩
    sl_exec
    iapply (gum_load_idle (R := gR2) (by decide)) $$ HG2; iintro %x HG2; try iapply ret_bind_wp
    sl_exec
    iapply (gum_wait rfl) $$ [HG3 HO]
    · isplitl [HG3]; · iexact HG3
      isplitl [HO]; · iexact HO
      iexact HM
    iintro ⟨HG3, HO⟩
    sl_exec
    iapply (gum_load_idle (R := gR3) (by decide)) $$ HG3; iintro %x HG3; try iapply ret_bind_wp
    sl_exec
    iapply (gum_wait rfl) $$ [HG0 HO]
    · isplitl [HG0]; · iexact HG0
      isplitl [HO]; · iexact HO
      iexact HM
    iintro ⟨HG0, HO⟩
    sl_exec
    iapply (gum_load_idle (R := gR0) (by decide)) $$ HG0; iintro %x HG0; try iapply ret_bind_wp
    sl_exec!
    sl_step
    iapply Hk
    isplitl [HO]
    · iexists _; isplitr; swap; (· iexact HO)
      ipureintro
      repeat (refine noted_insert ?_ _)
      exact fun p hp => Or.inl hp
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H70]; · iexact H70
    isplitl [H71]; · iexact H71
    isplitl [H72]; · iexact H72
    isplitl [H73]; · iexact H73
    isplitl [H9]; · iexact H9
    isplitl [H10]; · iexists _; iexact H10
    isplitl [H11]; · iexact H11
    isplitl [HW0]; · iexists _; iexact HW0
    isplitl [HW1]; · iexists _; iexact HW1
    isplitl [HW2]; · iexists _; iexact HW2
    isplitl [HW3]; · iexists _; iexact HW3
    isplitl [HU0]; · iexists _; iexact HU0
    isplitl [HU1]; · iexists _; iexact HU1
    isplitl [HU2]; · iexists _; iexact HU2
    isplitl [HU3]; · iexists _; iexact HU3
    isplitl [Hs0]; · iexact Hs0
    isplitl [Hs1]; · iexact Hs1
    isplitl [Hs2]; · iexact Hs2
    isplitl [Hs3]; · iexact Hs3
    isplitl [Ht0]; · iexact Ht0
    isplitl [Ht1]; · iexact Ht1
    isplitl [Ht2]; · iexact Ht2
    isplitl [Ht3]; · iexact Ht3
    isplitl [HG0]; · iexact HG0
    isplitl [HG1]; · iexact HG1
    isplitl [HG2]; · iexact HG2
    iexact HG3

end Cert.Proof.Gath

end
-- ==== Proof.Logits.lean ====
/-
  The logits the first TensorCore call's body writes: one function of the hidden layer, the weights and the biases that
  every block of the body's run agrees with.
-/
module

public import proofs.«01_k».proof.Proof.Ranker
public import Idealize.ShloMosaic.Lib.Pipeline.ValueKit
public import Idealize.ShloMosaic.Lib.ViewIndex

@[expose] public section

set_option maxRecDepth 16384

noncomputable section

namespace Cert.Proof.Gath

open Cert.GatherIdeal Cert.GatherIdeal.Gen
open Idealize.ShloMosaic Idealize.ShloMosaic.TcCoe
open Idealize.SL Idealize.SL.Sem

variable {F : FTy → Type} [FloatOps F]

/-! ## The blocks -/

/-- Columns `o … o + 4095` of the weights and of the biases. -/
def wBlk (w : S256x100000.Idx → Elt F .f32) (o : ℕ) : FVec F S256x4096 .f32 := fun i =>
  w (ValueIdx.ix2 (n0 := 256) (n1 := 100000) (i 0) ⟨(o + (i 1).val) % 100000, Nat.mod_lt _ (by decide)⟩)
def bBlk (b : S1x99968.Idx → Elt F .f32) (o : ℕ) : Vec F S1x4096 .f32 := fun i =>
  b (ValueIdx.ix2 (n0 := 1) (n1 := 99968) (i 0) ⟨(o + (i 1).val) % 99968, Nat.mod_lt _ (by decide)⟩)
/-- The last 1664 columns the body writes. -/
def wEnd (w : S256x100000.Idx → Elt F .f32) (o : ℕ) : FVec F S256x1664 .f32 := fun i =>
  w (ValueIdx.ix2 (n0 := 256) (n1 := 100000) (i 0) ⟨(o + (i 1).val) % 100000, Nat.mod_lt _ (by decide)⟩)
def bEnd (b : S1x99968.Idx → Elt F .f32) (o : ℕ) : Vec F S1x1664 .f32 := fun i =>
  b (ValueIdx.ix2 (n0 := 1) (n1 := 99968) (i 0) ⟨(o + (i 1).val) % 99968, Nat.mod_lt _ (by decide)⟩)

/-- A block of logits. -/
def lBlk (h : FVec F S128x256 .f32) (w : FVec F S256x4096 .f32) (b : Vec F S1x4096 .f32) : FVec F S128x4096 .f32 :=
  addf (matmul dot_S128x256_S256x4096_S128x4096_1_0_0_1_n_n none h w (constant S128x4096 .f32 0x00000000#32))
    (broadcastTo S128x4096 (shapeCast S1x4096 b shapeCasts_S1x4096_S1x4096) broadcasts_S1x4096_S128x4096)
def lEnd (h : FVec F S128x256 .f32) (w : FVec F S256x1664 .f32) (b : Vec F S1x1664 .f32) : FVec F S128x1664 .f32 :=
  addf (matmul dot_S128x256_S256x1664_S128x1664_1_0_0_1_n_n none h w (constant S128x1664 .f32 0x00000000#32))
    (broadcastTo S128x1664 (shapeCast S1x1664 b shapeCasts_S1x1664_S1x1664) broadcasts_S1x1664_S128x1664)

/-- The logits the body writes, element by element. -/
def logit (h : FVec F S128x256 .f32) (w : S256x100000.Idx → Elt F .f32) (b : S1x99968.Idx → Elt F .f32) : S128x100000.Idx → Elt F .f32 := fun y =>
  if (y 1).val < 98304 then
    lBlk h (wBlk w (4096 * ((y 1).val / 4096))) (bBlk b (4096 * ((y 1).val / 4096)))
      (ValueIdx.ix2 (n0 := 128) (n1 := 4096) (y 0) ⟨(y 1).val % 4096, Nat.mod_lt _ (by decide)⟩)
  else lEnd h (wEnd w 98304) (bEnd b 98304) (ValueIdx.ix2 (n0 := 128) (n1 := 1664) (y 0) ⟨((y 1).val - 98304) % 1664, Nat.mod_lt _ (by decide)⟩)

section Slots

variable {κ : Kind} {sp sp' : Space} {S : Shape} {e : EltTy}

/-- A slot read back after a copy into it through its squeezed slice. -/
theorem slot_read (M : Memref sig κ sp S e) (r : Rect S) (hr : ∀ a, r.stride a = 1) {s' : Shape} (hq : r.shape.Squeezes s')
    (g : M.view.ty.Contents (Elt F)) (w : s'.Idx → Elt F e) (y : s'.Idx) :
    M.view.readAt (Elt F) r.toLoadRect (((M.slice r hr).squeeze s' hq).view.write (Elt F) g w Finset.univ) (Shape.reshapeEquiv hq.numel_eq y) = w y :=
  View.read_write_reshape (M.view.slice r) hq.numel_eq g w y

/-- A slot copied out through its squeezed slice, after a store of the whole slot. -/
theorem slot_out (M : Memref sig κ sp S e) (r : Rect S) (hr : ∀ a, r.stride a = 1) {s' : Shape} (hq : r.shape.Squeezes s')
    (g : M.view.ty.Contents (Elt F)) (p : r.shape.Idx → Elt F e) (L : List (View.Piece (Elt F) S e)) (y : s'.Idx) :
    (ReadAs.same.apply (((M.slice r hr).squeeze s' hq).view.read (Elt F) (M.view.writes (Elt F) g (⟨r, p⟩ :: L))) : s'.Idx → Elt F e) y
      = p (Shape.reshapeEquiv hq.numel_eq y) :=
  View.read_writes_cons_emb (v := M.view) (f := g) r p L (Shape.reshapeEquiv hq.numel_eq y)

end Slots

theorem emb_val {s : Shape} (off size : Fin s.rank → ℕ) (inb) (j : (Rect.unit (s := s) off size inb).shape.Idx) (a : Fin s.rank) :
    ((Rect.unit (s := s) off size inb).emb j a).val = off a + (j a).val := ValueKit.rect_emb_unit_val off size inb j a

section Chunk

variable {M7 : Memref sig .tc .hbm S256x100000 .f32} {M3 : Memref sig .tc .vmem S1x99968 .f32} {M12 : Memref sig .tc .vmem S4x256x4096 .f32}
  {M14 : Memref sig .tc .vmem S4x128x4096 .f32}
  {f7 : M7.view.ty.Contents (Elt F)} {f3 : M3.view.ty.Contents (Elt F)} {g12 : M12.view.ty.Contents (Elt F)} {f14 : M14.view.ty.Contents (Elt F)}

/-- One block as the body writes it is the logits at its place. -/
theorem chunk_val {s o : ℕ} (ho : o % 4096 = 0) (hj : o < 98304) (h : FVec F S128x256 .f32) {i14 h14 i12 h12 i7 h7 i3 i9}
    {L : List (View.Piece (Elt F) S4x128x4096 .f32)} (x : S128x4096.Idx) :
    (ReadAs.same.apply (((M14.slice (Rect.unit (s := S4x128x4096) ![s, 0, 0] S1x128x4096.size i14) h14).squeeze S128x4096 squeezes_S1x128x4096_S128x4096).view.read (Elt F)
      (M14.view.writes (Elt F) f14 (⟨Rect.unit (s := S4x128x4096) ![s, 0, 0] S1x128x4096.size i14,
        k0_pay5 h (M12.view.readAt (Elt F) (Rect.unit (s := S4x256x4096) ![s, 0, 0] S1x256x4096.size i12).toLoadRect
            (((M12.slice (Rect.unit (s := S4x256x4096) ![s, 0, 0] S1x256x4096.size i12) h12).squeeze S256x4096 squeezes_S1x256x4096_S256x4096).view.write (Elt F) g12
              (ReadAs.same.apply ((M7.slice (Rect.unit (s := S256x100000) ![0, o] S256x4096.size i7) h7).view.read (Elt F) f7)) Finset.univ))
          (M3.view.readAt (Elt F) (Rect.unit (s := S1x99968) ![0, o] S1x4096.size i3).toLoadRect f3)⟩ :: L))) : S128x4096.Idx → Elt F .f32) x
      = logit h (M7.view.read (Elt F) f7) (M3.view.read (Elt F) f3) ((Rect.unit (s := S128x100000) ![0, o] S128x4096.size i9).emb x) := by
  obtain ⟨j, rfl⟩ : ∃ j, o = 4096 * j := ⟨o / 4096, by omega⟩
  rw [slot_out]
  have hx : (x 1).val < 4096 := (x 1).isLt
  have e1 : (((Rect.unit (s := S128x100000) ![0, 4096 * j] S128x4096.size i9).emb x) 1).val = 4096 * j + (x 1).val := emb_val _ _ _ _ _
  have e0 : ((Rect.unit (s := S128x100000) ![0, 4096 * j] S128x4096.size i9).emb x) 0 = x 0 := Fin.ext ((emb_val _ _ _ _ _).trans (Nat.zero_add _))
  unfold logit
  rw [if_pos (by rw [e1]; omega)]
  have ej : (((Rect.unit (s := S128x100000) ![0, 4096 * j] S128x4096.size i9).emb x) 1).val / 4096 = j := by rw [e1]; omega
  rw [ej]
  have ex : (ValueIdx.ix2 (n0 := 128) (n1 := 4096) (((Rect.unit (s := S128x100000) ![0, 4096 * j] S128x4096.size i9).emb x) 0)
      ⟨(((Rect.unit (s := S128x100000) ![0, 4096 * j] S128x4096.size i9).emb x) 1).val % 4096, Nat.mod_lt _ (by decide)⟩ : S128x4096.Idx) = x := by
    funext a
    match a with
    | ⟨0, _⟩ => exact e0
    | ⟨1, _⟩ => exact Fin.ext ((congrArg (· % 4096) e1).trans (by show (4096 * j + (x 1).val) % 4096 = (x 1).val; omega))
  rw [ex]
  show k0_pay4 h _ _ (Shape.reshapeEquiv _ (Shape.reshapeEquiv _ x)) = _
  rw [Shape.reshapeEquiv_reshapeEquiv, Shape.reshapeEquiv_self]
  show lBlk h (shapeCast S256x4096 _ shapeCasts_S1x256x4096_S256x4096) _ x = _
  congr 2
  · funext y
    refine (slot_read M12 _ h12 squeezes_S1x256x4096_S256x4096 g12 _ y).trans ?_
    show M7.view.read (Elt F) f7 ((Rect.unit (s := S256x100000) ![0, 4096 * j] S256x4096.size i7).emb y) = _
    unfold wBlk
    congr 1
    have hy : (y 1).val < 4096 := (y 1).isLt
    funext a
    match a with
    | ⟨0, _⟩ => exact Fin.ext ((emb_val _ _ _ _ _).trans (Nat.zero_add _))
    | ⟨1, _⟩ => exact Fin.ext ((emb_val _ _ _ _ _).trans (by show 4096 * j + (y 1).val = (4096 * j + (y 1).val) % 100000; omega))
  · funext y
    show M3.view.read (Elt F) f3 ((Rect.unit (s := S1x99968) ![0, 4096 * j] S1x4096.size i3).emb y) = _
    unfold bBlk
    congr 1
    have hy : (y 1).val < 4096 := (y 1).isLt
    funext a
    match a with
    | ⟨0, _⟩ => exact Fin.ext ((emb_val _ _ _ _ _).trans (Nat.zero_add _))
    | ⟨1, _⟩ => exact Fin.ext ((emb_val _ _ _ _ _).trans (by show 4096 * j + (y 1).val = (4096 * j + (y 1).val) % 99968; omega))

/-- The last block, narrower, likewise. -/
theorem end_val (h : FVec F S128x256 .f32) {i14 h14 i12 h12 i7 h7 i3 i9}
    {L : List (View.Piece (Elt F) S4x128x4096 .f32)} (x : S128x1664.Idx) :
    (ReadAs.same.apply (((M14.slice (Rect.unit (s := S4x128x4096) ![0, 0, 0] S1x128x1664.size i14) h14).squeeze S128x1664 squeezes_S1x128x1664_S128x1664).view.read (Elt F)
      (M14.view.writes (Elt F) f14 (⟨Rect.unit (s := S4x128x4096) ![0, 0, 0] S1x128x1664.size i14,
        k0_pay186 h (M12.view.readAt (Elt F) (Rect.unit (s := S4x256x4096) ![0, 0, 0] S1x256x1664.size i12).toLoadRect
            (((M12.slice (Rect.unit (s := S4x256x4096) ![0, 0, 0] S1x256x1664.size i12) h12).squeeze S256x1664 squeezes_S1x256x1664_S256x1664).view.write (Elt F) g12
              (ReadAs.same.apply ((M7.slice (Rect.unit (s := S256x100000) ![0, 98304] S256x1664.size i7) h7).view.read (Elt F) f7)) Finset.univ))
          (M3.view.readAt (Elt F) (Rect.unit (s := S1x99968) ![0, 98304] S1x1664.size i3).toLoadRect f3)⟩ :: L))) : S128x1664.Idx → Elt F .f32) x
      = logit h (M7.view.read (Elt F) f7) (M3.view.read (Elt F) f3) ((Rect.unit (s := S128x100000) ![0, 98304] S128x1664.size i9).emb x) := by
  rw [slot_out]
  have hx : (x 1).val < 1664 := (x 1).isLt
  have e1 : (((Rect.unit (s := S128x100000) ![0, 98304] S128x1664.size i9).emb x) 1).val = 98304 + (x 1).val := emb_val _ _ _ _ _
  have e0 : ((Rect.unit (s := S128x100000) ![0, 98304] S128x1664.size i9).emb x) 0 = x 0 := Fin.ext ((emb_val _ _ _ _ _).trans (Nat.zero_add _))
  unfold logit
  rw [if_neg (by rw [e1]; omega)]
  have ex : (ValueIdx.ix2 (n0 := 128) (n1 := 1664) (((Rect.unit (s := S128x100000) ![0, 98304] S128x1664.size i9).emb x) 0)
      ⟨((((Rect.unit (s := S128x100000) ![0, 98304] S128x1664.size i9).emb x) 1).val - 98304) % 1664, Nat.mod_lt _ (by decide)⟩ : S128x1664.Idx) = x := by
    funext a
    match a with
    | ⟨0, _⟩ => exact e0
    | ⟨1, _⟩ => exact Fin.ext ((congrArg (fun n => (n - 98304) % 1664) e1).trans (by show (98304 + (x 1).val - 98304) % 1664 = (x 1).val; omega))
  rw [ex]
  show k0_pay185 h _ _ (Shape.reshapeEquiv _ (Shape.reshapeEquiv _ x)) = _
  rw [Shape.reshapeEquiv_reshapeEquiv, Shape.reshapeEquiv_self]
  show lEnd h (shapeCast S256x1664 _ shapeCasts_S1x256x1664_S256x1664) _ x = _
  congr 2
  · funext y
    refine (slot_read M12 _ h12 squeezes_S1x256x1664_S256x1664 g12 _ y).trans ?_
    show M7.view.read (Elt F) f7 ((Rect.unit (s := S256x100000) ![0, 98304] S256x1664.size i7).emb y) = _
    unfold wEnd
    congr 1
    have hy : (y 1).val < 1664 := (y 1).isLt
    funext a
    match a with
    | ⟨0, _⟩ => exact Fin.ext ((emb_val _ _ _ _ _).trans (Nat.zero_add _))
    | ⟨1, _⟩ => exact Fin.ext ((emb_val _ _ _ _ _).trans (by show 98304 + (y 1).val = (98304 + (y 1).val) % 100000; omega))
  · funext y
    show M3.view.read (Elt F) f3 ((Rect.unit (s := S1x99968) ![0, 98304] S1x1664.size i3).emb y) = _
    unfold bEnd
    congr 1
    have hy : (y 1).val < 1664 := (y 1).isLt
    funext a
    match a with
    | ⟨0, _⟩ => exact Fin.ext ((emb_val _ _ _ _ _).trans (Nat.zero_add _))
    | ⟨1, _⟩ => exact Fin.ext ((emb_val _ _ _ _ _).trans (by show 98304 + (y 1).val = (98304 + (y 1).val) % 99968; omega))

end Chunk

/-- The hidden layer, as the body computes it from its first three operands' staging buffers. -/
def hid (M0 : Memref sig .tc .vmem S128x64 .f32) (M1 : Memref sig .tc .vmem S64x256 .f32) (M2 : Memref sig .tc .vmem S1x256 .f32)
    (f0 : M0.view.ty.Contents (Elt F)) (f1 : M1.view.ty.Contents (Elt F)) (f2 : M2.view.ty.Contents (Elt F)) : FVec F S128x256 .f32 :=
  k0_pay1 (M0.view.readAt (Elt F) (Rect.unit (s := S128x64) ![0, 0] S128x64.size inb_S128x64_S128x64_0_0).toLoadRect f0)
    (M1.view.readAt (Elt F) (Rect.unit (s := S64x256) ![0, 0] S64x256.size inb_S64x256_S64x256_0_0).toLoadRect f1)
    (M2.view.readAt (Elt F) (Rect.unit (s := S1x256) ![0, 0] S1x256.size inb_S1x256_S1x256_0_0).toLoadRect f2)

/-- Walking the blocks: a column is in the block at `o`, or in one of the blocks after it. -/
theorem covered_cons {o n : ℕ} {inb} {w : (Rect.unit (s := S128x100000) ![0, o] ![128, n] inb).shape.Idx → Elt F .f32}
    {L : List (View.Piece (Elt F) S128x100000 .f32)} {y : S128x100000.Idx}
    (h : ¬ (o ≤ (y 1).val ∧ (y 1).val < o + n) → ∃ p ∈ L, y ∈ p.1.set) :
    ∃ p ∈ ((⟨Rect.unit (s := S128x100000) ![0, o] ![128, n] inb, w⟩ : View.Piece (Elt F) S128x100000 .f32) :: L), y ∈ p.1.set := by
  by_cases hc : o ≤ (y 1).val ∧ (y 1).val < o + n
  · have hm : y ∈ (Rect.unit (s := S128x100000) ![0, o] ![128, n] inb).set := by
      rw [Rect.mem_set_unit]
      intro a
      match a with
      | ⟨0, _⟩ => exact ⟨Nat.zero_le _, by show (y 0).val < 0 + 128; have : (y 0).val < 128 := (y 0).isLt; omega⟩
      | ⟨1, _⟩ => exact hc
    exact ⟨_, List.mem_cons_self, hm⟩
  · obtain ⟨p, hp, hy⟩ := h hc
    exact ⟨p, List.mem_cons_of_mem _ hp, hy⟩

set_option maxHeartbeats 2000000 in
/-- The logits array after the body: the logits at every column the body writes. -/
theorem ranker_logits (c : Dev nD)
    (M0 : Memref sig .tc .vmem S128x64 .f32) (h0 : M0.IsWhole) (M1 : Memref sig .tc .vmem S64x256 .f32) (h1 : M1.IsWhole)
    (M2 : Memref sig .tc .vmem S1x256 .f32) (h2 : M2.IsWhole) (M3 : Memref sig .tc .vmem S1x99968 .f32) (h3 : M3.IsWhole)
    (M4 : Memref sig .tc .vmem S256x32 .f32) (h4 : M4.IsWhole) (M5 : Memref sig .tc .vmem S1x32 .f32) (h5 : M5.IsWhole)
    (M6 : Memref sig .tc .vmem S128x32 .f32) (h6 : M6.IsWhole) (M7 : Memref sig .tc .hbm S256x100000 .f32) (h7 : M7.IsWhole)
    (M8 : Memref sig .tc .hbm S128x100000 .f32) (h8 : M8.IsWhole) (M9 : Memref sig .tc .hbm S128x100000 .f32) (h9 : M9.IsWhole)
    (M10 : Memref sig .tc .vmem S128x1 .i32) (h10 : M10.IsWhole) (M11 : Memref sig .tc .vmem S128x32 .f32) (h11 : M11.IsWhole)
    (M12 : Memref sig .tc .vmem S4x256x4096 .f32) (h12 : M12.IsWhole) (M13 : Memref sig .tc .vmem S4x128x4096 .f32) (h13 : M13.IsWhole)
    (M14 : Memref sig .tc .vmem S4x128x4096 .f32) (h14 : M14.IsWhole) (A15 A16 A17 : DmaSems sig S4)
    (f0 : ctn (F := F) c M0) (f1 : ctn (F := F) c M1) (f2 : ctn (F := F) c M2) (f3 : ctn (F := F) c M3) (f4 : ctn (F := F) c M4)
    (f5 : ctn (F := F) c M5) (f7 : ctn (F := F) c M7) (f9 : ctn (F := F) c M9) (f12 : ctn (F := F) c M12) (f14 : ctn (F := F) c M14)
    (y : S128x100000.Idx) (hy : (y 1).val < 99968) :
    M9.view.read (Elt F) (rankerRun c M0 h0 M1 h1 M2 h2 M3 h3 M4 h4 M5 h5 M6 h6 M7 h7 M8 h8 M9 h9 M10 h10 M11 h11 M12 h12 M13 h13 M14 h14 A15 A16 A17
        f0 f1 f2 f3 f4 f5 f7 f9 f12 f14).1.1 y
      = logit (hid M0 M1 M2 f0 f1 f2) (M7.view.read (Elt F) f7) (M3.view.read (Elt F) f3) y := by
  delta rankerRun
  dsimp only
  refine View.read_writes_apply_of_pieces (v := M9.view) (f := f9) _ _ ?_ y ?_
  · refine List.forall_mem_cons.2 ⟨fun x => ?_, ?_⟩
    · exact end_val (F := F) (M7 := M7) (M3 := M3) (M12 := M12) (M14 := M14) (f7 := f7) (f3 := f3) (f14 := f14) (i9 := inb_S128x100000_S128x1664_0_98304) (hid M0 M1 M2 f0 f1 f2) x
    iterate 24
      refine List.forall_mem_cons.2 ⟨fun x => ?_, ?_⟩
      · refine chunk_val (F := F) (M7 := M7) (M3 := M3) (M12 := M12) (M14 := M14) (f7 := f7) (f3 := f3) (f14 := f14) (i9 := ?_) ?_ ?_ (hid M0 M1 M2 f0 f1 f2) x <;> decide
    exact fun p hp => absurd hp List.not_mem_nil
  · iterate 25 refine covered_cons fun _ => ?_
    exfalso; omega

end Cert.Proof.Gath

end
-- ==== Proof.Rings.lean ====
/-
  The first TensorCore call's buffers taken apart and put together again: a ring as its four slots, an array as the four
  shares its copies read, the call's twelve semaphores one by one; and the last columns' logits, which the call leaves in
  a buffer of their own.
-/
module

public import proofs.«01_k».proof.Proof.Logits
public import Idealize.ShloMosaic.Lib.Ring
public import Idealize.ShloMosaic.Lib.LaneScatter.Tiles

@[expose] public section

set_option maxRecDepth 16384

noncomputable section

namespace Cert.Proof.Gath

open Cert.GatherIdeal Cert.GatherIdeal.Gen
open Idealize.ShloMosaic Idealize.ShloMosaic.TcCoe
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Transfers
open Idealize.ShloMosaic.Ring

variable {F : FTy → Type} [FloatOps F]

local notation "𝕄" => MT nD τ sig (HIx 1) (Elt F) ℕ UU ℕ

/-! ## The last columns -/

/-- The logits of the last 32 columns, as the body computes them from its operands' staging buffers. -/
def tailOf (h : FVec F S128x256 .f32) (M4 : Memref sig .tc .vmem S256x32 .f32) (M5 : Memref sig .tc .vmem S1x32 .f32)
    (f4 : M4.view.ty.Contents (Elt F)) (f5 : M5.view.ty.Contents (Elt F)) : S128x32.Idx → Elt F .f32 :=
  k0_pay193 (k0_pay192 h (M4.view.readAt (Elt F) (Rect.unit (s := S256x32) ![0, 0] S256x32.size inb_S256x32_S256x32_0_0).toLoadRect f4))
    (M5.view.readAt (Elt F) (Rect.unit (s := S1x32) ![0, 0] S1x32.size inb_S1x32_S1x32_0_0).toLoadRect f5)

set_option maxHeartbeats 2000000 in
/-- The body's third result: the logits of the last 32 columns. -/
theorem ranker_tail (c : Dev nD)
    (M0 : Memref sig .tc .vmem S128x64 .f32) (h0 : M0.IsWhole) (M1 : Memref sig .tc .vmem S64x256 .f32) (h1 : M1.IsWhole)
    (M2 : Memref sig .tc .vmem S1x256 .f32) (h2 : M2.IsWhole) (M3 : Memref sig .tc .vmem S1x99968 .f32) (h3 : M3.IsWhole)
    (M4 : Memref sig .tc .vmem S256x32 .f32) (h4 : M4.IsWhole) (M5 : Memref sig .tc .vmem S1x32 .f32) (h5 : M5.IsWhole)
    (M6 : Memref sig .tc .vmem S128x32 .f32) (h6 : M6.IsWhole) (M7 : Memref sig .tc .hbm S256x100000 .f32) (h7 : M7.IsWhole)
    (M8 : Memref sig .tc .hbm S128x100000 .f32) (h8 : M8.IsWhole) (M9 : Memref sig .tc .hbm S128x100000 .f32) (h9 : M9.IsWhole)
    (M10 : Memref sig .tc .vmem S128x1 .i32) (h10 : M10.IsWhole) (M11 : Memref sig .tc .vmem S128x32 .f32) (h11 : M11.IsWhole)
    (M12 : Memref sig .tc .vmem S4x256x4096 .f32) (h12 : M12.IsWhole) (M13 : Memref sig .tc .vmem S4x128x4096 .f32) (h13 : M13.IsWhole)
    (M14 : Memref sig .tc .vmem S4x128x4096 .f32) (h14 : M14.IsWhole) (A15 A16 A17 : DmaSems sig S4)
    (f0 : ctn (F := F) c M0) (f1 : ctn (F := F) c M1) (f2 : ctn (F := F) c M2) (f3 : ctn (F := F) c M3) (f4 : ctn (F := F) c M4)
    (f5 : ctn (F := F) c M5) (f7 : ctn (F := F) c M7) (f9 : ctn (F := F) c M9) (f12 : ctn (F := F) c M12) (f14 : ctn (F := F) c M14) :
    M11.view.read (Elt F) (rankerRun c M0 h0 M1 h1 M2 h2 M3 h3 M4 h4 M5 h5 M6 h6 M7 h7 M8 h8 M9 h9 M10 h10 M11 h11 M12 h12 M13 h13 M14 h14 A15 A16 A17
        f0 f1 f2 f3 f4 f5 f7 f9 f12 f14).1.2
      = tailOf (hid M0 M1 M2 f0 f1 f2) M4 M5 f4 f5 := by
  delta rankerRun
  dsimp only
  refine LaneScatter.read_whole_store (M11.view) _ (off := ![0, 0]) (fun a => by match a with | 0 => rfl | 1 => rfl) inb_S128x32_S128x32_0_0 _

/-! ## A ring as its slots -/

section Ring

variable {sp : Space} {S : Shape} {e : EltTy} (c : Dev nD) (M : Memref sig .tc sp S e) (R : Fin 4 → Rect S)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A slot's elements of the buffer. -/
abbrev slotSet (a : Fin 4) : Finset (Idx (M.view.loc (c : Thread nD τ))) := M.view.setOn (R a).set

theorem slots_disjoint (hd : ∀ a b, a ≠ b → Disjoint (R a).set (R b).set) (a b : Fin 4) (h : a ≠ b) :
    Disjoint (slotSet c M R a) (slotSet c M R b) :=
  (Finset.disjoint_map _).2 (hd a b h)

theorem slots_cover (hM : M.IsWhole) (hc : Finset.univ.biUnion (fun a => (R a).set) = Finset.univ) :
    Finset.univ.biUnion (slotSet c M R) = Finset.univ := by
  refine Finset.eq_univ_of_forall fun y => ?_
  have hy : y ∈ M.view.set := by rw [hM.set_eq_univ]; exact Finset.mem_univ _
  obtain ⟨x, -, rfl⟩ := Finset.mem_map.1 hy
  have hx : x ∈ Finset.univ.biUnion (fun a => (R a).set) := by rw [hc]; exact Finset.mem_univ _
  obtain ⟨a, -, ha⟩ := Finset.mem_biUnion.1 hx
  exact Finset.mem_biUnion.2 ⟨a, Finset.mem_univ _, Finset.mem_map_of_mem _ ha⟩

omit [FloatOps F] in
theorem ring_split (hM : M.IsWhole) (hd : ∀ a b, a ≠ b → Disjoint (R a).set (R b).set)
    (hc : Finset.univ.biUnion (fun a => (R a).set) = Finset.univ) (f : ctn (F := F) c M) :
    (all c M fullShare f : sProp 𝕄) ⊢ iprop(part c M (R 0) f ∗ part c M (R 1) f ∗ part c M (R 2) f ∗ part c M (R 3) f) := by
  rw [← bigSep_four (fun a => part c M (R a) f)]
  exact Entails.of_eq (pointsTo_blocks (ℓ := M.view.loc (c : Thread nD τ)) (slotSet c M R) (slots_disjoint c M R hd) (slots_cover c M R hM hc) f)

omit [FloatOps F] in
theorem ring_join (hM : M.IsWhole) (hd : ∀ a b, a ≠ b → Disjoint (R a).set (R b).set)
    (hc : Finset.univ.biUnion (fun a => (R a).set) = Finset.univ) (f₀ : ctn (F := F) c M) :
    (iprop((∃ f, part c M (R 0) f) ∗ (∃ f, part c M (R 1) f) ∗ (∃ f, part c M (R 2) f) ∗ (∃ f, part c M (R 3) f)) : sProp 𝕄)
      ⊢ iprop(∃ f, all c M fullShare f) := by
  rw [← bigSep_four (fun a => iprop(∃ f, part c M (R a) f))]
  exact pointsTo_blocks_join_exists (ℓ := M.view.loc (c : Thread nD τ)) (slotSet c M R) (slots_disjoint c M R hd) (slots_cover c M R hM hc) f₀

/-! ## An array as the shares four copies read -/

omit [FloatOps F] in
theorem toks_out (f : ctn (F := F) c M) :
    (all c M fullShare f : sProp 𝕄) ⊢ iprop(all c M (shareDrop fullShare 4) f ∗ all c M (shareTokN fullShare 0) f
      ∗ all c M (shareTokN fullShare 1) f ∗ all c M (shareTokN fullShare 2) f ∗ all c M (shareTokN fullShare 3) f) := by
  refine (pointsTo_toks_split fullShare 4).trans ?_
  rw [bigSep_four]
  exact BI.Entails.refl _

omit [FloatOps F] in
theorem toks_in (f : ctn (F := F) c M) :
    (iprop(all c M (shareDrop fullShare 4) f ∗ all c M (shareTokN fullShare 0) f
      ∗ all c M (shareTokN fullShare 1) f ∗ all c M (shareTokN fullShare 2) f ∗ all c M (shareTokN fullShare 3) f) : sProp 𝕄) ⊢ all c M fullShare f := by
  refine BI.Entails.trans ?_ (pointsTo_toks_join fullShare 4)
  rw [bigSep_four]
  exact BI.Entails.refl _

end Ring

/-! ## The two shapes of ring -/

abbrev wR : Fin 4 → Rect S4x256x4096 := fun b => Rect.unit (s := S4x256x4096) ![b.val, 0, 0] S1x256x4096.size (by revert b; decide)
abbrev gR : Fin 4 → Rect S4x128x4096 := fun b => Rect.unit (s := S4x128x4096) ![b.val, 0, 0] S1x128x4096.size (by revert b; decide)

theorem wR_disjoint (a b : Fin 4) (h : a ≠ b) : Disjoint (wR a).set (wR b).set :=
  lead_disjoint (s := S4x256x4096) 0 1 (fun b => ![b.val, 0, 0]) S1x256x4096.size (by decide) (by decide) rfl a b h
theorem wR_cover : Finset.univ.biUnion (fun a => (wR a).set) = Finset.univ :=
  lead_cover (s := S4x256x4096) 0 1 (fun b => ![b.val, 0, 0]) S1x256x4096.size (by decide) (by decide) (by decide) rfl (by decide) rfl
theorem gR_disjoint (a b : Fin 4) (h : a ≠ b) : Disjoint (gR a).set (gR b).set :=
  lead_disjoint (s := S4x128x4096) 0 1 (fun b => ![b.val, 0, 0]) S1x128x4096.size (by decide) (by decide) rfl a b h
theorem gR_cover : Finset.univ.biUnion (fun a => (gR a).set) = Finset.univ :=
  lead_cover (s := S4x128x4096) 0 1 (fun b => ![b.val, 0, 0]) S1x128x4096.size (by decide) (by decide) (by decide) rfl (by decide) rfl

/-! ## The call's semaphores -/

/-- The twelve cells: four for the weights' copies in, four for the noise's, four for the logits' copies out. -/
abbrev osem0 : Fin 12 → SemLoc sig := fun j => (![.dma (cel0 cc0_scratch3), .dma (cel1 cc0_scratch3), .dma (cel2 cc0_scratch3), .dma (cel3 cc0_scratch3),
  .dma (cel0 cc0_scratch4), .dma (cel1 cc0_scratch4), .dma (cel2 cc0_scratch4), .dma (cel3 cc0_scratch4),
  .dma (cel0 cc0_scratch5), .dma (cel1 cc0_scratch5), .dma (cel2 cc0_scratch5), .dma (cel3 cc0_scratch5)] : Fin 12 → SemLoc sig) j

theorem ownSemFacts0 : Pipeline.OwnSemFacts spec0 osem0 := by decide

omit [FloatOps F] in
theorem ownSems0_list (c : Dev nD) :
    (Pipeline.ownSems0 (Ix := HIx 1) (Name := ℕ) (U := UU) (Lvl := ℕ) (Val := Elt F) (τ := τ) osem0 c : sProp 𝕄)
      = iprop(zero c (cel0 cc0_scratch3) ∗ zero c (cel1 cc0_scratch3) ∗ zero c (cel2 cc0_scratch3) ∗ zero c (cel3 cc0_scratch3)
          ∗ zero c (cel0 cc0_scratch4) ∗ zero c (cel1 cc0_scratch4) ∗ zero c (cel2 cc0_scratch4) ∗ zero c (cel3 cc0_scratch4)
          ∗ zero c (cel0 cc0_scratch5) ∗ zero c (cel1 cc0_scratch5) ∗ zero c (cel2 cc0_scratch5) ∗ zero c (cel3 cc0_scratch5)) := by
  rw [Pipeline.ownSems0_eq_of_list c osem0 [0, 1, 2, 3, 4, 5, 6, 7, 8, 9, 10, 11] (by decide) (by decide)]; rfl

end Cert.Proof.Gath

end
-- ==== Proof.Merger.lean ====
/-
  The TensorCore call after the gather: its body run by the executor, its proof data, and the call as a region over the
  thread state "every unscoped buffer of the TensorCore at `V`", entered at any `V` and left at `V` with the call's two
  results as its write-backs leave them.
-/
module

public import proofs.«01_k».proof.Proof.Common
public import Idealize.ShloMosaic.Lib.Pipeline.RegionsLoop

@[expose] public section

set_option maxRecDepth 16384

noncomputable section

namespace Cert.Proof.Gath

open Cert.GatherIdeal Cert.GatherIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body, run by the executor -/

/-- Memref `M`'s buffer on device `c`'s TensorCore: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 2000000 in
/-- What the body leaves in its two results' staging buffers, with the proof that from all eight staging buffers held
    whole the kernel runs to its return, the six operands' as they were. -/
def mergerRun (c : Dev nD) (i : grid2.Coords)
    (M0 : Memref sig .tc .vmem S128x64 .f32) (h0 : M0.IsWhole) (M1 : Memref sig .tc .vmem S128x64 .f32) (h1 : M1.IsWhole)
    (M2 : Memref sig .tc .vmem S64x64 .f32) (h2 : M2.IsWhole) (M3 : Memref sig .tc .vmem S64x64 .f32) (h3 : M3.IsWhole)
    (M4 : Memref sig .tc .vmem S1x64 .f32) (h4 : M4.IsWhole) (M5 : Memref sig .tc .vmem S128x32 .f32) (h5 : M5.IsWhole)
    (Mx : Memref sig .tc .hbm S128x100000 .f32) (hx : Mx.IsWhole)
    (M6 : Memref sig .tc .vmem S128x64 .f32) (h6 : M6.IsWhole) (M7 : Memref sig .tc .vmem S128x128 .f32) (h7 : M7.IsWhole)
    (f0 : Bf (F := F) c M0) (f1 : Bf (F := F) c M1) (f2 : Bf (F := F) c M2) (f3 : Bf (F := F) c M3) (f4 : Bf (F := F) c M4) (f5 : Bf (F := F) c M5) :
    { W : Bf (F := F) c M6 × Bf (F := F) c M7 // ∀ (f6 : Bf (F := F) c M6) (f7 : Bf (F := F) c M7) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
            ∗ (iprop(pt c M0 f0 ∗ pt c M1 f1 ∗ pt c M2 f2 ∗ pt c M3 f3 ∗ pt c M4 f4 ∗ pt c M5 f5 ∗ pt c M6 W.1 ∗ pt c M7 W.2) -∗ Q ⟨⟩))
          ⊢ wp frame (wpE (defs₀ (F := F)) Variants.none c none) E
              (cc2__merger_body i M0 h0 M1 h1 M2 h2 M3 h3 M4 h4 M5 h5 Mx hx M6 h6 M7 h7) Q } := by
  refine ⟨⟨?_, ?_⟩, fun f6 f7 E Q => ?run⟩
  case run =>
    rw [cc2__merger_body_eq_skeleton]
    iintro ⟨H0, H1, H2, H3, H4, H5, H6, H7, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The proof data, at an entry valuation -/

variable (V : (c : Dev nD) → (b : Ref sig .tc) → Buf (Elt F) ((c : Thread nD τ).loc b))

/-! The operands' blocks as the fetches stage them: each array at the entry valuation, read through its window's block. -/

abbrev stg0 (c : Dev nD) : S128x64.Idx → Elt F .f32 := ((cfg2.win 0).blk t2_0).view.read (Elt F) (V c (Pipeline.arrRef spec2 0))
abbrev stg1 (c : Dev nD) : S128x64.Idx → Elt F .f32 := ((cfg2.win 1).blk t2_0).view.read (Elt F) (V c (Pipeline.arrRef spec2 1))
abbrev stg2 (c : Dev nD) : S64x64.Idx → Elt F .f32 := ((cfg2.win 2).blk t2_0).view.read (Elt F) (V c (Pipeline.arrRef spec2 2))
abbrev stg3 (c : Dev nD) : S64x64.Idx → Elt F .f32 := ((cfg2.win 3).blk t2_0).view.read (Elt F) (V c (Pipeline.arrRef spec2 3))
abbrev stg4 (c : Dev nD) : S1x64.Idx → Elt F .f32 := ((cfg2.win 4).blk t2_0).view.read (Elt F) (V c (Pipeline.arrRef spec2 4))
abbrev stg5 (c : Dev nD) : S128x32.Idx → Elt F .f32 := ((cfg2.win 5).blk t2_0).view.read (Elt F) (V c (Pipeline.arrRef spec2 5))

/-- The run at the staged blocks. -/
abbrev Krun (c : Dev nD) := mergerRun (F := F) c (grid2.coords t2_0) (stage2_0 0) (hstage2_0 0) (stage2_1 0) (hstage2_1 0) (stage2_2 0) (hstage2_2 0)
  (stage2_3 0) (hstage2_3 0) (stage2_4 0) (hstage2_4 0) (stage2_5 0) (hstage2_5 0) (Memref.whole main_v11_1) (Memref.isWhole_whole _)
  (stage2_6 0) (hstage2_6 0) (stage2_7 0) (hstage2_7 0)
  (stg0 V c) (stg1 V c) (stg2 V c) (stg3 V c) (stg4 V c) (stg5 V c)

/-- The pairs the TensorCore may have recorded when the SparseCore call is over. -/
def recd (c : Dev nD) : Set (SemLoc sig × HIx 1) := {p | (K (F := F)).lev (T c, p.1) p.2 ≤ 8 * 1}

/-- The proof data of the call from valuation `V`: the arrays at `V`; after the body the operands' buffers as fetched and
    the results' at the run's witness; nothing owed. -/
def dat (c : Dev nD) : Dat τ (Elt F) (HIx 1) ℕ UU ℕ cfg2 c where
  A w := V c (Pipeline.arrRef spec2 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => (Krun V c).1.1
    | ⟨7, _⟩ => (Krun V c).1.2
  Φ _ := Pipeline.scopedRest (Ix := HIx 1) (Name := ℕ) (U := UU) (Lvl := ℕ) (Val := Elt F) spec2 c
  q _ := fullShare
  owed _ := 0
  recorded _ := recd (F := F) c

theorem before0 (c : Dev nD) (d : (cfg2.win 0).block.Idx → Elt F (cfg2.win 0).elt) : (dat V c).before 0 t2_0 d = stg0 V c := by
  unfold Dat.before; rw [if_pos (fetch2_0 t2_0)]; rfl
theorem before1 (c : Dev nD) (d : (cfg2.win 1).block.Idx → Elt F (cfg2.win 1).elt) : (dat V c).before 1 t2_0 d = stg1 V c := by
  unfold Dat.before; rw [if_pos (fetch2_1 t2_0)]; rfl
theorem before2 (c : Dev nD) (d : (cfg2.win 2).block.Idx → Elt F (cfg2.win 2).elt) : (dat V c).before 2 t2_0 d = stg2 V c := by
  unfold Dat.before; rw [if_pos (fetch2_2 t2_0)]; rfl
theorem before3 (c : Dev nD) (d : (cfg2.win 3).block.Idx → Elt F (cfg2.win 3).elt) : (dat V c).before 3 t2_0 d = stg3 V c := by
  unfold Dat.before; rw [if_pos (fetch2_3 t2_0)]; rfl
theorem before4 (c : Dev nD) (d : (cfg2.win 4).block.Idx → Elt F (cfg2.win 4).elt) : (dat V c).before 4 t2_0 d = stg4 V c := by
  unfold Dat.before; rw [if_pos (fetch2_4 t2_0)]; rfl
theorem before5 (c : Dev nD) (d : (cfg2.win 5).block.Idx → Elt F (cfg2.win 5).elt) : (dat V c).before 5 t2_0 d = stg5 V c := by
  unfold Dat.before; rw [if_pos (fetch2_5 t2_0)]; rfl

/-! A staging buffer owned at contents is it held whole at them. -/

theorem owns0 (c : Dev nD) (X : (cfg2.win 0).block.Idx → Elt F (cfg2.win 0).elt) :
    (owns (c : Thread nD τ) (st2_0 t2_0) fullShare X : sProp 𝕄) = iprop(∃ f : Bf (F := F) c (stage2_0 0), ⌜f = X⌝ ∗ pt c (stage2_0 0) f) := by
  rw [show st2_0 t2_0 = Memref.whole cc2_stg0_0 from congrArg stage2_0 (@Subsingleton.elim (Fin 1) _ (cfg2.slots t2_0 0) 0)]
  exact owns_whole_eq (c : Thread nD τ) cc2_stg0_0 fullShare X
theorem owns1 (c : Dev nD) (X : (cfg2.win 1).block.Idx → Elt F (cfg2.win 1).elt) :
    (owns (c : Thread nD τ) (st2_1 t2_0) fullShare X : sProp 𝕄) = iprop(∃ f : Bf (F := F) c (stage2_1 0), ⌜f = X⌝ ∗ pt c (stage2_1 0) f) := by
  rw [show st2_1 t2_0 = Memref.whole cc2_stg1_0 from congrArg stage2_1 (@Subsingleton.elim (Fin 1) _ (cfg2.slots t2_0 1) 0)]
  exact owns_whole_eq (c : Thread nD τ) cc2_stg1_0 fullShare X
theorem owns2 (c : Dev nD) (X : (cfg2.win 2).block.Idx → Elt F (cfg2.win 2).elt) :
    (owns (c : Thread nD τ) (st2_2 t2_0) fullShare X : sProp 𝕄) = iprop(∃ f : Bf (F := F) c (stage2_2 0), ⌜f = X⌝ ∗ pt c (stage2_2 0) f) := by
  rw [show st2_2 t2_0 = Memref.whole cc2_stg2_0 from congrArg stage2_2 (@Subsingleton.elim (Fin 1) _ (cfg2.slots t2_0 2) 0)]
  exact owns_whole_eq (c : Thread nD τ) cc2_stg2_0 fullShare X
theorem owns3 (c : Dev nD) (X : (cfg2.win 3).block.Idx → Elt F (cfg2.win 3).elt) :
    (owns (c : Thread nD τ) (st2_3 t2_0) fullShare X : sProp 𝕄) = iprop(∃ f : Bf (F := F) c (stage2_3 0), ⌜f = X⌝ ∗ pt c (stage2_3 0) f) := by
  rw [show st2_3 t2_0 = Memref.whole cc2_stg3_0 from congrArg stage2_3 (@Subsingleton.elim (Fin 1) _ (cfg2.slots t2_0 3) 0)]
  exact owns_whole_eq (c : Thread nD τ) cc2_stg3_0 fullShare X
theorem owns4 (c : Dev nD) (X : (cfg2.win 4).block.Idx → Elt F (cfg2.win 4).elt) :
    (owns (c : Thread nD τ) (st2_4 t2_0) fullShare X : sProp 𝕄) = iprop(∃ f : Bf (F := F) c (stage2_4 0), ⌜f = X⌝ ∗ pt c (stage2_4 0) f) := by
  rw [show st2_4 t2_0 = Memref.whole cc2_stg4_0 from congrArg stage2_4 (@Subsingleton.elim (Fin 1) _ (cfg2.slots t2_0 4) 0)]
  exact owns_whole_eq (c : Thread nD τ) cc2_stg4_0 fullShare X
theorem owns5 (c : Dev nD) (X : (cfg2.win 5).block.Idx → Elt F (cfg2.win 5).elt) :
    (owns (c : Thread nD τ) (st2_5 t2_0) fullShare X : sProp 𝕄) = iprop(∃ f : Bf (F := F) c (stage2_5 0), ⌜f = X⌝ ∗ pt c (stage2_5 0) f) := by
  rw [show st2_5 t2_0 = Memref.whole cc2_stg5_0 from congrArg stage2_5 (@Subsingleton.elim (Fin 1) _ (cfg2.slots t2_0 5) 0)]
  exact owns_whole_eq (c : Thread nD τ) cc2_stg5_0 fullShare X
theorem owns6 (c : Dev nD) (X : (cfg2.win 6).block.Idx → Elt F (cfg2.win 6).elt) :
    (owns (c : Thread nD τ) (st2_6 t2_0) fullShare X : sProp 𝕄) = iprop(∃ f : Bf (F := F) c (stage2_6 0), ⌜f = X⌝ ∗ pt c (stage2_6 0) f) := by
  rw [show st2_6 t2_0 = Memref.whole cc2_stg6_0 from congrArg stage2_6 (@Subsingleton.elim (Fin 1) _ (cfg2.slots t2_0 6) 0)]
  exact owns_whole_eq (c : Thread nD τ) cc2_stg6_0 fullShare X
theorem owns7 (c : Dev nD) (X : (cfg2.win 7).block.Idx → Elt F (cfg2.win 7).elt) :
    (owns (c : Thread nD τ) (st2_7 t2_0) fullShare X : sProp 𝕄) = iprop(∃ f : Bf (F := F) c (stage2_7 0), ⌜f = X⌝ ∗ pt c (stage2_7 0) f) := by
  rw [show st2_7 t2_0 = Memref.whole cc2_stg7_0 from congrArg stage2_7 (@Subsingleton.elim (Fin 1) _ (cfg2.slots t2_0 7) 0)]
  exact owns_whole_eq (c : Thread nD τ) cc2_stg7_0 fullShare X

set_option maxHeartbeats 1000000 in
/-- The library's body obligation: the staging buffers and the invariant taken apart, the run applied, its post reassembled. -/
theorem body_obligation (c : Dev nD) : BodyObligation (dat V c) (defs₀ (F := F)) 𝒱₀ none Set.univ := fun t => by
  obtain rfl := fin_N2 t
  rw [bigSep_W2, bigSep_W2]
  rw [show (dat V c).Φ t2_0.castSucc = (dat V c).Φ t2_0.succ from rfl,
    show (dat V c).owesAt none t2_0.succ = (dat V c).owesAt none t2_0.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (Entails.of_eq (owns0 c ((dat V c).before 0 t2_0 d0))) $$ H0
  icases H0 with ⟨%f0, %hf0, H0⟩
  rw [before0] at hf0
  subst hf0
  ihave H1 := (Entails.of_eq (owns1 c ((dat V c).before 1 t2_0 d1))) $$ H1
  icases H1 with ⟨%f1, %hf1, H1⟩
  rw [before1] at hf1
  subst hf1
  ihave H2 := (Entails.of_eq (owns2 c ((dat V c).before 2 t2_0 d2))) $$ H2
  icases H2 with ⟨%f2, %hf2, H2⟩
  rw [before2] at hf2
  subst hf2
  ihave H3 := (Entails.of_eq (owns3 c ((dat V c).before 3 t2_0 d3))) $$ H3
  icases H3 with ⟨%f3, %hf3, H3⟩
  rw [before3] at hf3
  subst hf3
  ihave H4 := (Entails.of_eq (owns4 c ((dat V c).before 4 t2_0 d4))) $$ H4
  icases H4 with ⟨%f4, %hf4, H4⟩
  rw [before4] at hf4
  subst hf4
  ihave H5 := (Entails.of_eq (owns5 c ((dat V c).before 5 t2_0 d5))) $$ H5
  icases H5 with ⟨%f5, %hf5, H5⟩
  rw [before5] at hf5
  subst hf5
  ihave H6 := (Entails.of_eq (owns6 c ((dat V c).before 6 t2_0 d6))) $$ H6
  icases H6 with ⟨%f6, %hf6, H6⟩
  ihave H7 := (Entails.of_eq (owns7 c ((dat V c).before 7 t2_0 d7))) $$ H7
  icases H7 with ⟨%f7, %hf7, H7⟩
  iapply ((Krun V c).2 f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]
  · iapply (Entails.of_eq (owns0 c ((dat V c).after 0 t2_0)).symm)
    iexists _; isplitr; swap; (· iexact H0); ipureintro; rfl
  isplitl [H1]
  · iapply (Entails.of_eq (owns1 c ((dat V c).after 1 t2_0)).symm)
    iexists _; isplitr; swap; (· iexact H1); ipureintro; rfl
  isplitl [H2]
  · iapply (Entails.of_eq (owns2 c ((dat V c).after 2 t2_0)).symm)
    iexists _; isplitr; swap; (· iexact H2); ipureintro; rfl
  isplitl [H3]
  · iapply (Entails.of_eq (owns3 c ((dat V c).after 3 t2_0)).symm)
    iexists _; isplitr; swap; (· iexact H3); ipureintro; rfl
  isplitl [H4]
  · iapply (Entails.of_eq (owns4 c ((dat V c).after 4 t2_0)).symm)
    iexists _; isplitr; swap; (· iexact H4); ipureintro; rfl
  isplitl [H5]
  · iapply (Entails.of_eq (owns5 c ((dat V c).after 5 t2_0)).symm)
    iexists _; isplitr; swap; (· iexact H5); ipureintro; rfl
  isplitl [H6]
  · iapply (Entails.of_eq (owns6 c ((dat V c).after 6 t2_0)).symm)
    iexists _; isplitr; swap; (· iexact H6); ipureintro; rfl
  iapply (Entails.of_eq (owns7 c ((dat V c).after 7 t2_0)).symm)
  iexists _; isplitr; swap; (· iexact H7); ipureintro; rfl

/-! ## The region over the thread state -/

variable (adm : (p : Fin 2) → (pcfgs (F := F) p).Adm)
  (pd0 : (c : Dev nD) → Dat τ (Elt F) (HIx 1) ℕ UU ℕ (Pipeline.pin (pcfgs (F := F)) adm 0) c)

/-- The proof data of the two calls; the first call's as given: nothing here looks at them. -/
def pdats : (p : Fin 2) → (c : Dev nD) → Dat τ (Elt F) (HIx 1) ℕ UU ℕ (Pipeline.pin (pcfgs (F := F)) adm p) c
  | ⟨0, _⟩ => pd0
  | ⟨1, _⟩ => fun c => dat V c

/-- The valuation the call leaves: its two results as the write-backs leave them. -/
def Vp (c : Dev nD) (b : Ref sig .tc) : Buf (Elt F) ((c : Thread nD τ).loc b) :=
  if h : b = main_v11_0 then h ▸ (dat V c).arrAt 6 cfg2.N else if h : b = main_v11_1 then h ▸ (dat V c).arrAt 7 cfg2.N else V c b

theorem Vp_v3_0 (c : Dev nD) : Vp V c main_v11_0 = (dat V c).arrAt 6 cfg2.N := by
  unfold Vp; rw [dif_pos rfl]
theorem Vp_v3_1 (c : Dev nD) : Vp V c main_v11_1 = (dat V c).arrAt 7 cfg2.N := by
  unfold Vp; rw [dif_neg (by decide), dif_pos rfl]
theorem Vp_ne (c : Dev nD) (b : Ref sig .tc) (h₀ : b ≠ main_v11_0) (h₁ : b ≠ main_v11_1) : Vp V c b = V c b := by
  unfold Vp; rw [dif_neg h₀, dif_neg h₁]

/-- What the TensorCore owes, and has recorded, once the SparseCore call is over. -/
abbrev owesDone (c : Dev nD) : sProp 𝕄 :=
  iprop(∃ W, ⌜(K (F := F)).WBelow (T c) W (8 * 1)⌝ ∗ owes (c : Thread nD τ) (0 : CellTallies nD τ sig (HIx 1)) W)

set_option backward.isDefEq.respectTransparency.types false in
/-- The call as a region over the thread state. -/
def reg : Pipeline.RegionSeg (pcfgs (F := F)) adm (pdats V adm pd0) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation V c).loose
  hwaits := Pipeline.hwaits_of_owed_zero _ _ _ _ _ _ 1 fun _ _ => rfl
  pre c := iprop(unscopedBufs c (V c) ∗ owesDone (F := F) c)
  post c := iprop(unscopedBufs c (Vp V c) ∗ owesDone (F := F) c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V adm pd0) launch2.win launch2.arr_whole c
      ((pdats V adm pd0 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm pd0 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V adm pd0 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V adm pd0) ((pdats V adm pd0 1 c).share_full fun _ => rfl) (V c) (Vp V c) ((pdats V adm pd0 1 c).arrAt · cfg2.N)
      (fun w => by
        fin_cases w
        · exact ((pdats V adm pd0 1 c).arrAt_in 0 rfl _).trans (Vp_ne V c main_arg0 (by decide) (by decide)).symm
        · exact ((pdats V adm pd0 1 c).arrAt_in 1 rfl _).trans (Vp_ne V c main_v9 (by decide) (by decide)).symm
        · exact ((pdats V adm pd0 1 c).arrAt_in 2 rfl _).trans (Vp_ne V c main_arg6 (by decide) (by decide)).symm
        · exact ((pdats V adm pd0 1 c).arrAt_in 3 rfl _).trans (Vp_ne V c main_arg7 (by decide) (by decide)).symm
        · exact ((pdats V adm pd0 1 c).arrAt_in 4 rfl _).trans (Vp_ne V c main_v10 (by decide) (by decide)).symm
        · exact ((pdats V adm pd0 1 c).arrAt_in 5 rfl _).trans (Vp_ne V c main_v7_2 (by decide) (by decide)).symm
        · exact (Vp_v3_0 V c).symm
        · exact (Vp_v3_1 V c).symm)
      (fun b hb => Vp_ne V c b (fun h => hb (h ▸ Finset.mem_image.mpr ⟨6, Finset.mem_univ _, rfl⟩)) (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h; exact Nat.zero_le _
    iexact HO

end Cert.Proof.Gath

end
-- ==== Proof.RankData.lean ====
/-
  The first TensorCore call: its proof data, and the call as a region over the thread state "every unscoped buffer of the
  TensorCore at `V`". The region leaves the logits' array at some contents with the logits in every column but the last
  32, the last 32 columns' logits in a buffer of their own, and the array of row numbers at some contents.
-/
module

public import proofs.«01_k».proof.Proof.Rings
public import proofs.«01_k».proof.Proof.Merger
public import Idealize.ShloMosaic.Lib.Pipeline.RegionArraysF

@[expose] public section

set_option maxRecDepth 16384

noncomputable section

namespace Cert.Proof.Gath

open Cert.GatherIdeal Cert.GatherIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Transfers
open Idealize.ShloMosaic.Pipeline (Dat RDat Cfg Window BodyObligationLoose cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The operands' blocks as the fetches stage them -/

abbrev ops0 (c : Dev nD) : S128x64.Idx → Elt F .f32 := ((cfg0.win 0).blk t0_0).view.read (Elt F) (V c (Pipeline.arrRef spec0 0))
abbrev ops1 (c : Dev nD) : S64x256.Idx → Elt F .f32 := ((cfg0.win 1).blk t0_0).view.read (Elt F) (V c (Pipeline.arrRef spec0 1))
abbrev ops2 (c : Dev nD) : S1x256.Idx → Elt F .f32 := ((cfg0.win 2).blk t0_0).view.read (Elt F) (V c (Pipeline.arrRef spec0 2))
abbrev ops3 (c : Dev nD) : S1x99968.Idx → Elt F .f32 := ((cfg0.win 3).blk t0_0).view.read (Elt F) (V c (Pipeline.arrRef spec0 3))
abbrev ops4 (c : Dev nD) : S256x32.Idx → Elt F .f32 := ((cfg0.win 4).blk t0_0).view.read (Elt F) (V c (Pipeline.arrRef spec0 4))
abbrev ops5 (c : Dev nD) : S1x32.Idx → Elt F .f32 := ((cfg0.win 5).blk t0_0).view.read (Elt F) (V c (Pipeline.arrRef spec0 5))
abbrev ops6 (c : Dev nD) : S128x32.Idx → Elt F .f32 := ((cfg0.win 6).blk t0_0).view.read (Elt F) (V c (Pipeline.arrRef spec0 6))

/-- The hidden layer of the run. -/
abbrev hid0 (c : Dev nD) : FVec F S128x256 .f32 := hid (stage0_0 0) (stage0_1 0) (stage0_2 0) (ops0 V c) (ops1 V c) (ops2 V c)
/-- The last 32 columns' logits. -/
abbrev tail0 (c : Dev nD) : S128x32.Idx → Elt F .f32 := tailOf (hid0 V c) (stage0_4 0) (stage0_5 0) (ops4 V c) (ops5 V c)
/-- The logits of the other columns, as the body writes them. -/
abbrev logit0 (c : Dev nD) : S128x100000.Idx → Elt F .f32 := logit (hid0 V c) (V c main_arg3) (ops3 V c)
/-- The logits are in place in every column but the last 32. -/
def Ranked (c : Dev nD) (Y : S128x100000.Idx → Elt F .f32) : Prop := ∀ y, (y 1).val < 99968 → Y y = logit0 V c y

/-- The run at the staged blocks. -/
abbrev Rrun (c : Dev nD) (f9 : ctn (F := F) c (Memref.whole main_v7_0)) (f12 : ctn (F := F) c (Memref.whole cc0_scratch0)) (f14 : ctn (F := F) c (Memref.whole cc0_scratch2)) :=
  rankerRun (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0)
    (Memref.whole main_arg3) (Memref.isWhole_whole _) (Memref.whole main_arg9) (Memref.isWhole_whole _) (Memref.whole main_v7_0) (Memref.isWhole_whole _)
    (stage0_7 0) (hstage0_7 0) (stage0_8 0) (hstage0_8 0) (Memref.whole cc0_scratch0) (Memref.isWhole_whole _) (Memref.whole cc0_scratch1) (Memref.isWhole_whole _)
    (Memref.whole cc0_scratch2) (Memref.isWhole_whole _) cc0_scratch3 cc0_scratch4 cc0_scratch5
    (ops0 V c) (ops1 V c) (ops2 V c) (ops3 V c) (ops4 V c) (ops5 V c) (V c main_arg3) f9 f12 f14

theorem Rrun_ranked (c : Dev nD) (f9 : ctn (F := F) c (Memref.whole main_v7_0)) (f12 : ctn (F := F) c (Memref.whole cc0_scratch0)) (f14 : ctn (F := F) c (Memref.whole cc0_scratch2)) :
    Ranked V c (Rrun V c f9 f12 f14).1.1 := fun y hy => by
  have h := ranker_logits (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (Memref.whole main_arg3) (Memref.isWhole_whole _) (Memref.whole main_arg9) (Memref.isWhole_whole _) (Memref.whole main_v7_0) (Memref.isWhole_whole _)
      (stage0_7 0) (hstage0_7 0) (stage0_8 0) (hstage0_8 0) (Memref.whole cc0_scratch0) (Memref.isWhole_whole _) (Memref.whole cc0_scratch1) (Memref.isWhole_whole _)
      (Memref.whole cc0_scratch2) (Memref.isWhole_whole _) cc0_scratch3 cc0_scratch4 cc0_scratch5
      (ops0 V c) (ops1 V c) (ops2 V c) (ops3 V c) (ops4 V c) (ops5 V c) (V c main_arg3) f9 f12 f14 y hy
  exact (congrFun (View.read_whole (Val := Elt F) main_v7_0 _) y).symm.trans h

theorem read_stage8 (X : (stage0_8 0).view.ty.Contents (Elt F)) : (stage0_8 0).view.read (Elt F) X = X := rfl

theorem Rrun_tail (c : Dev nD) (f9 : ctn (F := F) c (Memref.whole main_v7_0)) (f12 : ctn (F := F) c (Memref.whole cc0_scratch0)) (f14 : ctn (F := F) c (Memref.whole cc0_scratch2)) :
    (Rrun V c f9 f12 f14).1.2 = tail0 V c := by
  have h := ranker_tail (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (Memref.whole main_arg3) (Memref.isWhole_whole _) (Memref.whole main_arg9) (Memref.isWhole_whole _) (Memref.whole main_v7_0) (Memref.isWhole_whole _)
      (stage0_7 0) (hstage0_7 0) (stage0_8 0) (hstage0_8 0) (Memref.whole cc0_scratch0) (Memref.isWhole_whole _) (Memref.whole cc0_scratch1) (Memref.isWhole_whole _)
      (Memref.whole cc0_scratch2) (Memref.isWhole_whole _) cc0_scratch3 cc0_scratch4 cc0_scratch5
      (ops0 V c) (ops1 V c) (ops2 V c) (ops3 V c) (ops4 V c) (ops5 V c) (V c main_arg3) f9 f12 f14
  exact (read_stage8 _).symm.trans h

/-! ## The proof data, at an entry valuation -/

/-- What the TensorCore owes, and has recorded, before the SparseCore call. -/
abbrev owesStart (c : Dev nD) : sProp 𝕄 :=
  iprop(∃ W, ⌜(K (F := F)).WBelow (T c) W (8 * 0)⌝ ∗ owes (c : Thread nD τ) ((K (F := F)).Otc c 0) W)

/-- What the call holds besides its windows when it is entered, and when it is left. -/
def PhiIn (c : Dev nD) : sProp 𝕄 :=
  iprop(Pipeline.scopedRest (Ix := HIx 1) (Name := ℕ) (U := UU) (Lvl := ℕ) (Val := Elt F) spec0 c
    ∗ Pipeline.ownSems0 (Ix := HIx 1) (Name := ℕ) (U := UU) (Lvl := ℕ) (Val := Elt F) (τ := τ) osem0 c
    ∗ all c (Memref.whole main_arg3) fullShare (V c main_arg3) ∗ all c (Memref.whole main_arg9) fullShare (V c main_arg9)
    ∗ all c (Memref.whole main_v7_0) fullShare (V c main_v7_0) ∗ MayWaits (c : Thread nD τ) none ((K (F := F)).Otc c 0))

def PhiOut (c : Dev nD) : sProp 𝕄 :=
  iprop(Pipeline.scopedRest (Ix := HIx 1) (Name := ℕ) (U := UU) (Lvl := ℕ) (Val := Elt F) spec0 c
    ∗ Pipeline.ownSems0 (Ix := HIx 1) (Name := ℕ) (U := UU) (Lvl := ℕ) (Val := Elt F) (τ := τ) osem0 c
    ∗ all c (Memref.whole main_arg3) fullShare (V c main_arg3) ∗ all c (Memref.whole main_arg9) fullShare (V c main_arg9)
    ∗ ∃ Y, ⌜Ranked V c Y⌝ ∗ all c (Memref.whole main_v7_0) fullShare Y)

/-- The proof data of the call from valuation `V`: the row numbers' window says nothing of what it holds. -/
def dat0 (c : Dev nD) : Dat τ (Elt F) (HIx 1) ℕ UU ℕ cfg0 c where
  A w := V c (Pipeline.arrRef spec0 w)
  after w _ := match w with
    | ⟨0, _⟩ => ops0 V c
    | ⟨1, _⟩ => ops1 V c
    | ⟨2, _⟩ => ops2 V c
    | ⟨3, _⟩ => ops3 V c
    | ⟨4, _⟩ => ops4 V c
    | ⟨5, _⟩ => ops5 V c
    | ⟨6, _⟩ => ops6 V c
    | ⟨7, _⟩ => ((cfg0.win 7).blk t0_0).view.read (Elt F) (V c (Pipeline.arrRef spec0 7))
    | ⟨8, _⟩ => tail0 V c
  Φ t := if t.val = 0 then PhiIn V c else PhiOut V c
  q _ := fullShare
  owed _ := (K (F := F)).Otc c 0
  recorded _ := {p | (K (F := F)).lev (T c, p.1) p.2 ≤ 8 * 0}

theorem dbefore0 (c : Dev nD) (d : (cfg0.win 0).block.Idx → Elt F (cfg0.win 0).elt) : (dat0 V c).before 0 t0_0 d = ops0 V c := by
  unfold Dat.before; rw [if_pos (fetch0_0 t0_0)]; rfl
theorem dbefore1 (c : Dev nD) (d : (cfg0.win 1).block.Idx → Elt F (cfg0.win 1).elt) : (dat0 V c).before 1 t0_0 d = ops1 V c := by
  unfold Dat.before; rw [if_pos (fetch0_1 t0_0)]; rfl
theorem dbefore2 (c : Dev nD) (d : (cfg0.win 2).block.Idx → Elt F (cfg0.win 2).elt) : (dat0 V c).before 2 t0_0 d = ops2 V c := by
  unfold Dat.before; rw [if_pos (fetch0_2 t0_0)]; rfl
theorem dbefore3 (c : Dev nD) (d : (cfg0.win 3).block.Idx → Elt F (cfg0.win 3).elt) : (dat0 V c).before 3 t0_0 d = ops3 V c := by
  unfold Dat.before; rw [if_pos (fetch0_3 t0_0)]; rfl
theorem dbefore4 (c : Dev nD) (d : (cfg0.win 4).block.Idx → Elt F (cfg0.win 4).elt) : (dat0 V c).before 4 t0_0 d = ops4 V c := by
  unfold Dat.before; rw [if_pos (fetch0_4 t0_0)]; rfl
theorem dbefore5 (c : Dev nD) (d : (cfg0.win 5).block.Idx → Elt F (cfg0.win 5).elt) : (dat0 V c).before 5 t0_0 d = ops5 V c := by
  unfold Dat.before; rw [if_pos (fetch0_5 t0_0)]; rfl
theorem dbefore6 (c : Dev nD) (d : (cfg0.win 6).block.Idx → Elt F (cfg0.win 6).elt) : (dat0 V c).before 6 t0_0 d = ops6 V c := by
  unfold Dat.before; rw [if_pos (fetch0_6 t0_0)]; rfl

/-! A staging buffer owned at contents is it held whole at them. -/

theorem rowns0 (c : Dev nD) (X : (cfg0.win 0).block.Idx → Elt F (cfg0.win 0).elt) :
    (owns (c : Thread nD τ) (st0_0 t0_0) fullShare X : sProp 𝕄) = iprop(∃ f : ctn (F := F) c (stage0_0 0), ⌜f = X⌝ ∗ all c (stage0_0 0) fullShare f) := by
  rw [show st0_0 t0_0 = Memref.whole cc0_stg0_0 from congrArg stage0_0 (@Subsingleton.elim (Fin 1) _ (cfg0.slots t0_0 0) 0)]
  exact owns_whole_eq (c : Thread nD τ) cc0_stg0_0 fullShare X
theorem rowns1 (c : Dev nD) (X : (cfg0.win 1).block.Idx → Elt F (cfg0.win 1).elt) :
    (owns (c : Thread nD τ) (st0_1 t0_0) fullShare X : sProp 𝕄) = iprop(∃ f : ctn (F := F) c (stage0_1 0), ⌜f = X⌝ ∗ all c (stage0_1 0) fullShare f) := by
  rw [show st0_1 t0_0 = Memref.whole cc0_stg1_0 from congrArg stage0_1 (@Subsingleton.elim (Fin 1) _ (cfg0.slots t0_0 1) 0)]
  exact owns_whole_eq (c : Thread nD τ) cc0_stg1_0 fullShare X
theorem rowns2 (c : Dev nD) (X : (cfg0.win 2).block.Idx → Elt F (cfg0.win 2).elt) :
    (owns (c : Thread nD τ) (st0_2 t0_0) fullShare X : sProp 𝕄) = iprop(∃ f : ctn (F := F) c (stage0_2 0), ⌜f = X⌝ ∗ all c (stage0_2 0) fullShare f) := by
  rw [show st0_2 t0_0 = Memref.whole cc0_stg2_0 from congrArg stage0_2 (@Subsingleton.elim (Fin 1) _ (cfg0.slots t0_0 2) 0)]
  exact owns_whole_eq (c : Thread nD τ) cc0_stg2_0 fullShare X
theorem rowns3 (c : Dev nD) (X : (cfg0.win 3).block.Idx → Elt F (cfg0.win 3).elt) :
    (owns (c : Thread nD τ) (st0_3 t0_0) fullShare X : sProp 𝕄) = iprop(∃ f : ctn (F := F) c (stage0_3 0), ⌜f = X⌝ ∗ all c (stage0_3 0) fullShare f) := by
  rw [show st0_3 t0_0 = Memref.whole cc0_stg3_0 from congrArg stage0_3 (@Subsingleton.elim (Fin 1) _ (cfg0.slots t0_0 3) 0)]
  exact owns_whole_eq (c : Thread nD τ) cc0_stg3_0 fullShare X
theorem rowns4 (c : Dev nD) (X : (cfg0.win 4).block.Idx → Elt F (cfg0.win 4).elt) :
    (owns (c : Thread nD τ) (st0_4 t0_0) fullShare X : sProp 𝕄) = iprop(∃ f : ctn (F := F) c (stage0_4 0), ⌜f = X⌝ ∗ all c (stage0_4 0) fullShare f) := by
  rw [show st0_4 t0_0 = Memref.whole cc0_stg4_0 from congrArg stage0_4 (@Subsingleton.elim (Fin 1) _ (cfg0.slots t0_0 4) 0)]
  exact owns_whole_eq (c : Thread nD τ) cc0_stg4_0 fullShare X
theorem rowns5 (c : Dev nD) (X : (cfg0.win 5).block.Idx → Elt F (cfg0.win 5).elt) :
    (owns (c : Thread nD τ) (st0_5 t0_0) fullShare X : sProp 𝕄) = iprop(∃ f : ctn (F := F) c (stage0_5 0), ⌜f = X⌝ ∗ all c (stage0_5 0) fullShare f) := by
  rw [show st0_5 t0_0 = Memref.whole cc0_stg5_0 from congrArg stage0_5 (@Subsingleton.elim (Fin 1) _ (cfg0.slots t0_0 5) 0)]
  exact owns_whole_eq (c : Thread nD τ) cc0_stg5_0 fullShare X
theorem rowns6 (c : Dev nD) (X : (cfg0.win 6).block.Idx → Elt F (cfg0.win 6).elt) :
    (owns (c : Thread nD τ) (st0_6 t0_0) fullShare X : sProp 𝕄) = iprop(∃ f : ctn (F := F) c (stage0_6 0), ⌜f = X⌝ ∗ all c (stage0_6 0) fullShare f) := by
  rw [show st0_6 t0_0 = Memref.whole cc0_stg6_0 from congrArg stage0_6 (@Subsingleton.elim (Fin 1) _ (cfg0.slots t0_0 6) 0)]
  exact owns_whole_eq (c : Thread nD τ) cc0_stg6_0 fullShare X
theorem rowns7 (c : Dev nD) (X : (cfg0.win 7).block.Idx → Elt F (cfg0.win 7).elt) :
    (owns (c : Thread nD τ) (st0_7 t0_0) fullShare X : sProp 𝕄) = iprop(∃ f : ctn (F := F) c (stage0_7 0), ⌜f = X⌝ ∗ all c (stage0_7 0) fullShare f) := by
  rw [show st0_7 t0_0 = Memref.whole cc0_stg7_0 from congrArg stage0_7 (@Subsingleton.elim (Fin 1) _ (cfg0.slots t0_0 7) 0)]
  exact owns_whole_eq (c : Thread nD τ) cc0_stg7_0 fullShare X
theorem rowns8 (c : Dev nD) (X : (cfg0.win 8).block.Idx → Elt F (cfg0.win 8).elt) :
    (owns (c : Thread nD τ) (st0_8 t0_0) fullShare X : sProp 𝕄) = iprop(∃ f : ctn (F := F) c (stage0_8 0), ⌜f = X⌝ ∗ all c (stage0_8 0) fullShare f) := by
  rw [show st0_8 t0_0 = Memref.whole cc0_stg8_0 from congrArg stage0_8 (@Subsingleton.elim (Fin 1) _ (cfg0.slots t0_0 8) 0)]
  exact owns_whole_eq (c : Thread nD τ) cc0_stg8_0 fullShare X

end Cert.Proof.Gath

end
-- ==== Proof.RankBody.lean ====
/-
  The first TensorCore call's body at its staged blocks, and the call as a region over the thread state.
-/
module

public import proofs.«01_k».proof.Proof.RankData

@[expose] public section

set_option maxRecDepth 16384

noncomputable section

namespace Cert.Proof.Gath

open Cert.GatherIdeal Cert.GatherIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Transfers
open Idealize.ShloMosaic.Pipeline (Dat RDat Cfg Window BodyObligationLoose cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- The windows of which nothing is said: the row numbers'. -/
def fg0 : Fin cfg0.W → Bool := fun w => decide (w.val = 7)

theorem Phi_start (c : Dev nD) : (dat0 V c).Φ t0_0.castSucc = PhiIn V c := if_pos (t := PhiIn V c) (e := PhiOut V c) (show t0_0.castSucc.val = 0 from rfl)
theorem Phi_end (c : Dev nD) : (dat0 V c).Φ t0_0.succ = PhiOut V c := if_neg (t := PhiIn V c) (e := PhiOut V c) (show ¬ t0_0.succ.val = 0 by decide)

set_option maxHeartbeats 4000000 in
/-- The library's body obligation: the staging buffers and the invariant taken apart, the rings into their slots and the
    arrays into their shares, the run applied, its post reassembled. -/
theorem rank_obligation (c : Dev nD) : BodyObligationLoose (dat0 V c) (defs₀ (F := F)) 𝒱₀ none Set.univ fg0 := fun t => by
  obtain rfl := fin_N0 t
  rw [bigSep_W0, bigSep_W0, Phi_start, Phi_end]
  show iprop(PhiIn V c ∗ (dat0 V c).owesAt none t0_0.castSucc
      ∗ (∃ d, owns (c : Thread nD τ) (st0_0 t0_0) fullShare ((dat0 V c).before 0 t0_0 d))
      ∗ (∃ d, owns (c : Thread nD τ) (st0_1 t0_0) fullShare ((dat0 V c).before 1 t0_0 d))
      ∗ (∃ d, owns (c : Thread nD τ) (st0_2 t0_0) fullShare ((dat0 V c).before 2 t0_0 d))
      ∗ (∃ d, owns (c : Thread nD τ) (st0_3 t0_0) fullShare ((dat0 V c).before 3 t0_0 d))
      ∗ (∃ d, owns (c : Thread nD τ) (st0_4 t0_0) fullShare ((dat0 V c).before 4 t0_0 d))
      ∗ (∃ d, owns (c : Thread nD τ) (st0_5 t0_0) fullShare ((dat0 V c).before 5 t0_0 d))
      ∗ (∃ d, owns (c : Thread nD τ) (st0_6 t0_0) fullShare ((dat0 V c).before 6 t0_0 d))
      ∗ (∃ X, owns (c : Thread nD τ) (st0_7 t0_0) fullShare X)
      ∗ (∃ d, owns (c : Thread nD τ) (st0_8 t0_0) fullShare ((dat0 V c).before 8 t0_0 d))
      ) ⊢ wp frame (wpE (defs₀ (F := F)) 𝒱₀ (c : Thread nD τ) none) Set.univ (bodyAt0 t0_0) fun _ =>
    iprop(PhiOut V c ∗ (dat0 V c).owesAt none t0_0.succ
      ∗ owns (c : Thread nD τ) (st0_0 t0_0) fullShare ((dat0 V c).after 0 t0_0)
      ∗ owns (c : Thread nD τ) (st0_1 t0_0) fullShare ((dat0 V c).after 1 t0_0)
      ∗ owns (c : Thread nD τ) (st0_2 t0_0) fullShare ((dat0 V c).after 2 t0_0)
      ∗ owns (c : Thread nD τ) (st0_3 t0_0) fullShare ((dat0 V c).after 3 t0_0)
      ∗ owns (c : Thread nD τ) (st0_4 t0_0) fullShare ((dat0 V c).after 4 t0_0)
      ∗ owns (c : Thread nD τ) (st0_5 t0_0) fullShare ((dat0 V c).after 5 t0_0)
      ∗ owns (c : Thread nD τ) (st0_6 t0_0) fullShare ((dat0 V c).after 6 t0_0)
      ∗ (∃ X, owns (c : Thread nD τ) (st0_7 t0_0) fullShare X)
      ∗ owns (c : Thread nD τ) (st0_8 t0_0) fullShare ((dat0 V c).after 8 t0_0)
      )
  unfold PhiIn PhiOut
  rw [scopedRest0_eq, ownSems0_list]
  unfold Dat.owesAt Pipeline.owesWithin
  iintro ⟨⟨⟨⟨%f12, HW⟩, ⟨%f13, HG⟩, ⟨%f14, HU⟩, Hsr⟩, ⟨Hs0, Hs1, Hs2, Hs3, Hg0, Hg1, Hg2, Hg3, Ht0, Ht1, Ht2, Ht3⟩, Ha3, Ha9, Hl, #HM⟩,
    ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H0 := (Entails.of_eq (rowns0 c ((dat0 V c).before 0 t0_0 d0))) $$ H0
  icases H0 with ⟨%f0, %hf0, H0⟩
  rw [dbefore0] at hf0
  subst hf0
  ihave H1 := (Entails.of_eq (rowns1 c ((dat0 V c).before 1 t0_0 d1))) $$ H1
  icases H1 with ⟨%f1, %hf1, H1⟩
  rw [dbefore1] at hf1
  subst hf1
  ihave H2 := (Entails.of_eq (rowns2 c ((dat0 V c).before 2 t0_0 d2))) $$ H2
  icases H2 with ⟨%f2, %hf2, H2⟩
  rw [dbefore2] at hf2
  subst hf2
  ihave H3 := (Entails.of_eq (rowns3 c ((dat0 V c).before 3 t0_0 d3))) $$ H3
  icases H3 with ⟨%f3, %hf3, H3⟩
  rw [dbefore3] at hf3
  subst hf3
  ihave H4 := (Entails.of_eq (rowns4 c ((dat0 V c).before 4 t0_0 d4))) $$ H4
  icases H4 with ⟨%f4, %hf4, H4⟩
  rw [dbefore4] at hf4
  subst hf4
  ihave H5 := (Entails.of_eq (rowns5 c ((dat0 V c).before 5 t0_0 d5))) $$ H5
  icases H5 with ⟨%f5, %hf5, H5⟩
  rw [dbefore5] at hf5
  subst hf5
  ihave H6 := (Entails.of_eq (rowns6 c ((dat0 V c).before 6 t0_0 d6))) $$ H6
  icases H6 with ⟨%f6, %hf6, H6⟩
  rw [dbefore6] at hf6
  subst hf6
  ihave H7 := (Entails.of_eq (rowns7 c d7)) $$ H7
  icases H7 with ⟨%f10, %hf7, H7⟩
  ihave H8 := (Entails.of_eq (rowns8 c ((dat0 V c).before 8 t0_0 d8))) $$ H8
  icases H8 with ⟨%f11, %hf8, H8⟩
  ihave HW := (ring_split c (Memref.whole cc0_scratch0) wR (Memref.isWhole_whole _) wR_disjoint wR_cover f12) $$ HW
  icases HW with ⟨HW0, HW1, HW2, HW3⟩
  ihave HG := (ring_split c (Memref.whole cc0_scratch1) gR (Memref.isWhole_whole _) gR_disjoint gR_cover f13) $$ HG
  icases HG with ⟨HG0, HG1, HG2, HG3⟩
  ihave HU := (ring_split c (Memref.whole cc0_scratch2) gR (Memref.isWhole_whole _) gR_disjoint gR_cover f14) $$ HU
  icases HU with ⟨HU0, HU1, HU2, HU3⟩
  ihave Ha3 := (toks_out c (Memref.whole main_arg3) (V c main_arg3)) $$ Ha3
  icases Ha3 with ⟨Ha3, Hw0, Hw1, Hw2, Hw3⟩
  ihave Ha9 := (toks_out c (Memref.whole main_arg9) (V c main_arg9)) $$ Ha9
  icases Ha9 with ⟨Ha9, Hn0, Hn1, Hn2, Hn3⟩
  iapply ((Rrun V c (V c main_v7_0) f12 f14).2 (ops6 V c) (V c main_arg9) f10 f11 ((K (F := F)).Otc c 0) W _)
  isplitr; · iexact HM
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hw0]; · iexact Hw0
  isplitl [Hw1]; · iexact Hw1
  isplitl [Hw2]; · iexact Hw2
  isplitl [Hw3]; · iexact Hw3
  isplitl [Hl]; · iexact Hl
  isplitl [H7]; · iexact H7
  isplitl [H8]; · iexact H8
  isplitl [HW0]; · iexact HW0
  isplitl [HW1]; · iexact HW1
  isplitl [HW2]; · iexact HW2
  isplitl [HW3]; · iexact HW3
  isplitl [HU0]; · iexact HU0
  isplitl [HU1]; · iexact HU1
  isplitl [HU2]; · iexact HU2
  isplitl [HU3]; · iexact HU3
  isplitl [Hs0]; · iexact Hs0
  isplitl [Hs1]; · iexact Hs1
  isplitl [Hs2]; · iexact Hs2
  isplitl [Hs3]; · iexact Hs3
  isplitl [Ht0]; · iexact Ht0
  isplitl [Ht1]; · iexact Ht1
  isplitl [Ht2]; · iexact Ht2
  isplitl [Ht3]; · iexact Ht3
  isplitl [HG0 Hg0 Hn0]
  · unfold gIdle SlotIdle
    isplitl [HG0]; · iexists f13; iexact HG0
    isplitl [Hg0] <;> iassumption
  isplitl [HG1 Hg1 Hn1]
  · unfold gIdle SlotIdle
    isplitl [HG1]; · iexists f13; iexact HG1
    isplitl [Hg1] <;> iassumption
  isplitl [HG2 Hg2 Hn2]
  · unfold gIdle SlotIdle
    isplitl [HG2]; · iexists f13; iexact HG2
    isplitl [Hg2] <;> iassumption
  isplitl [HG3 Hg3 Hn3]
  · unfold gIdle SlotIdle
    isplitl [HG3]; · iexists f13; iexact HG3
    isplitl [Hg3] <;> iassumption
  iintro ⟨⟨%W', %hW', HO⟩, H0, H1, H2, H3, H4, H5, H6, Hw0, Hw1, Hw2, Hw3, Hl, ⟨%g10, H7⟩, H8, HW0, HW1, HW2, HW3, HU0, HU1, HU2, HU3,
    Hs0, Hs1, Hs2, Hs3, Ht0, Ht1, Ht2, Ht3, HI0, HI1, HI2, HI3⟩
  unfold gIdle SlotIdle
  icases HI0 with ⟨HG0, Hg0, Hn0⟩
  icases HI1 with ⟨HG1, Hg1, Hn1⟩
  icases HI2 with ⟨HG2, Hg2, Hn2⟩
  icases HI3 with ⟨HG3, Hg3, Hn3⟩
  ihave HW := (ring_join c (Memref.whole cc0_scratch0) wR (Memref.isWhole_whole _) wR_disjoint wR_cover f12) $$ [HW0 HW1 HW2 HW3]
  · isplitl [HW0]; · iexact HW0
    isplitl [HW1]; · iexact HW1
    isplitl [HW2]; · iexact HW2
    iexact HW3
  ihave HG := (ring_join c (Memref.whole cc0_scratch1) gR (Memref.isWhole_whole _) gR_disjoint gR_cover f13) $$ [HG0 HG1 HG2 HG3]
  · isplitl [HG0]; · iexact HG0
    isplitl [HG1]; · iexact HG1
    isplitl [HG2]; · iexact HG2
    iexact HG3
  ihave HU := (ring_join c (Memref.whole cc0_scratch2) gR (Memref.isWhole_whole _) gR_disjoint gR_cover f14) $$ [HU0 HU1 HU2 HU3]
  · isplitl [HU0]; · iexact HU0
    isplitl [HU1]; · iexact HU1
    isplitl [HU2]; · iexact HU2
    iexact HU3
  ihave Ha3 := (toks_in c (Memref.whole main_arg3) (V c main_arg3)) $$ [Ha3 Hw0 Hw1 Hw2 Hw3]
  · isplitl [Ha3]; · iexact Ha3
    isplitl [Hw0]; · iexact Hw0
    isplitl [Hw1]; · iexact Hw1
    isplitl [Hw2]; · iexact Hw2
    iexact Hw3
  ihave Ha9 := (toks_in c (Memref.whole main_arg9) (V c main_arg9)) $$ [Ha9 Hn0 Hn1 Hn2 Hn3]
  · isplitl [Ha9]; · iexact Ha9
    isplitl [Hn0]; · iexact Hn0
    isplitl [Hn1]; · iexact Hn1
    isplitl [Hn2]; · iexact Hn2
    iexact Hn3
  isplitl [HW HG HU Hsr Hs0 Hs1 Hs2 Hs3 Hg0 Hg1 Hg2 Hg3 Ht0 Ht1 Ht2 Ht3 Ha3 Ha9 Hl]
  · isplitl [HW HG HU Hsr]
    · isplitl [HW]; · iexact HW
      isplitl [HG]; · iexact HG
      isplitl [HU]; · iexact HU
      iexact Hsr
    isplitl [Hs0 Hs1 Hs2 Hs3 Hg0 Hg1 Hg2 Hg3 Ht0 Ht1 Ht2 Ht3]
    · isplitl [Hs0]; · iexact Hs0
      isplitl [Hs1]; · iexact Hs1
      isplitl [Hs2]; · iexact Hs2
      isplitl [Hs3]; · iexact Hs3
      isplitl [Hg0]; · iexact Hg0
      isplitl [Hg1]; · iexact Hg1
      isplitl [Hg2]; · iexact Hg2
      isplitl [Hg3]; · iexact Hg3
      isplitl [Ht0]; · iexact Ht0
      isplitl [Ht1]; · iexact Ht1
      isplitl [Ht2]; · iexact Ht2
      iexact Ht3
    isplitl [Ha3]; · iexact Ha3
    isplitl [Ha9]; · iexact Ha9
    iexists (Rrun V c (V c main_v7_0) f12 f14).1.1
    isplitr; · ipureintro; exact Rrun_ranked V c _ _ _
    iexact Hl
  isplitl [HO]
  · iexists W'
    isplitr
    · ipureintro
      intro p hp
      rcases hW' p hp with h | h
      · exact hW h
      · refine Or.inl ?_
        show (K (F := F)).lev (T c, p.1) p.2 ≤ 8 * 0
        rw [h]; exact le_refl 0
    iexact HO
  isplitl [H0]
  · iapply (Entails.of_eq (rowns0 c ((dat0 V c).after 0 t0_0)).symm)
    iexists _; isplitr; swap; (· iexact H0); ipureintro; rfl
  isplitl [H1]
  · iapply (Entails.of_eq (rowns1 c ((dat0 V c).after 1 t0_0)).symm)
    iexists _; isplitr; swap; (· iexact H1); ipureintro; rfl
  isplitl [H2]
  · iapply (Entails.of_eq (rowns2 c ((dat0 V c).after 2 t0_0)).symm)
    iexists _; isplitr; swap; (· iexact H2); ipureintro; rfl
  isplitl [H3]
  · iapply (Entails.of_eq (rowns3 c ((dat0 V c).after 3 t0_0)).symm)
    iexists _; isplitr; swap; (· iexact H3); ipureintro; rfl
  isplitl [H4]
  · iapply (Entails.of_eq (rowns4 c ((dat0 V c).after 4 t0_0)).symm)
    iexists _; isplitr; swap; (· iexact H4); ipureintro; rfl
  isplitl [H5]
  · iapply (Entails.of_eq (rowns5 c ((dat0 V c).after 5 t0_0)).symm)
    iexists _; isplitr; swap; (· iexact H5); ipureintro; rfl
  isplitl [H6]
  · iapply (Entails.of_eq (rowns6 c ((dat0 V c).after 6 t0_0)).symm)
    iexists _; isplitr; swap; (· iexact H6); ipureintro; rfl
  isplitl [H7]
  · iexists g10
    iapply (Entails.of_eq (rowns7 c g10).symm)
    iexists _; isplitr; swap; (· iexact H7); ipureintro; rfl
  iapply (Entails.of_eq (rowns8 c ((dat0 V c).after 8 t0_0)).symm)
  iexists _; isplitr; swap; (· iexact H8); ipureintro; exact Rrun_tail V c _ _ _

end Cert.Proof.Gath

end
-- ==== Proof.RankRegion.lean ====
/-
  The first TensorCore call as a region over the thread state "every unscoped buffer of the TensorCore at `V`".
-/
module

public import proofs.«01_k».proof.Proof.RankBody

@[expose] public section

set_option maxRecDepth 16384

noncomputable section

namespace Cert.Proof.Gath

open Cert.GatherIdeal Cert.GatherIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Transfers
open Idealize.ShloMosaic.Pipeline (Dat RDat Cfg Window BodyObligationLoose cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The valuation the call leaves -/

/-- `V` with the logits' array at `Y`. -/
def Vy (c : Dev nD) (Y : S128x100000.Idx → Elt F .f32) (b : Ref sig .tc) : Buf (Elt F) ((c : Thread nD τ).loc b) :=
  if h : b = main_v7_0 then h ▸ Y else V c b
/-- `V` with the call's three results: the row numbers' array at `X`, the logits' at `Y`, the tail's as its write-back leaves it. -/
def Vq (c : Dev nD) (X : S128x1.Idx → Elt F .i32) (Y : S128x100000.Idx → Elt F .f32) (b : Ref sig .tc) : Buf (Elt F) ((c : Thread nD τ).loc b) :=
  if h : b = main_v7_1 then h ▸ X else if h : b = main_v7_2 then h ▸ (dat0 V c).arrAt 8 cfg0.N else Vy V c Y b

theorem Vy_v7_0 (c : Dev nD) (Y) : Vy V c Y main_v7_0 = Y := by unfold Vy; rw [dif_pos rfl]
theorem Vy_ne (c : Dev nD) (Y) (b : Ref sig .tc) (h : b ≠ main_v7_0) : Vy V c Y b = V c b := by unfold Vy; rw [dif_neg h]
theorem Vq_v7_1 (c : Dev nD) (X Y) : Vq V c X Y main_v7_1 = X := by unfold Vq; rw [dif_pos rfl]
theorem Vq_v7_2 (c : Dev nD) (X Y) : Vq V c X Y main_v7_2 = (dat0 V c).arrAt 8 cfg0.N := by
  unfold Vq; rw [dif_neg (by decide), dif_pos rfl]
theorem Vq_Vy (c : Dev nD) (X Y) (b : Ref sig .tc) (h₁ : b ≠ main_v7_1) (h₂ : b ≠ main_v7_2) : Vq V c X Y b = Vy V c Y b := by
  unfold Vq; rw [dif_neg h₁, dif_neg h₂]
theorem Vq_v7_0 (c : Dev nD) (X Y) : Vq V c X Y main_v7_0 = Y := (Vq_Vy V c X Y _ (by decide) (by decide)).trans (Vy_v7_0 V c Y)
theorem Vq_ne (c : Dev nD) (X Y) (b : Ref sig .tc) (h₀ : b ≠ main_v7_0) (h₁ : b ≠ main_v7_1) (h₂ : b ≠ main_v7_2) : Vq V c X Y b = V c b :=
  (Vq_Vy V c X Y b h₁ h₂).trans (Vy_ne V c Y b h₀)

/-! ## The three arrays the body's own copies use, out of the buffers no window names -/

/-- The unscoped buffers that are neither a window's array nor one of those three. -/
def restIds : Finset (Ref sig .tc) :=
  ((((Finset.univ.filter fun b : Ref sig .tc => ¬ b.isScoped) \ Finset.univ.image (Pipeline.arrRef spec0)).erase main_arg3).erase main_arg9).erase main_v7_0

omit [FloatOps F] in
theorem rest_eq (c : Dev nD) (V : (b : Ref sig .tc) → Buf (Elt F) ((c : Thread nD τ).loc b)) :
    (Pipeline.unscopedRest (Ix := HIx 1) (Name := ℕ) (U := UU) (Lvl := ℕ) spec0 c V : sProp 𝕄)
      = iprop(all c (Memref.whole main_arg3) fullShare (V main_arg3) ∗ all c (Memref.whole main_arg9) fullShare (V main_arg9)
          ∗ all c (Memref.whole main_v7_0) fullShare (V main_v7_0) ∗ bigSep restIds fun b => ((c : Thread nD τ).loc b) ↦{fullShare} V b) := by
  unfold Pipeline.unscopedRest restIds
  rw [SparseCore.bigSep_erase' (i := main_arg3) (by decide), SparseCore.bigSep_erase' (i := main_arg9) (by decide),
    SparseCore.bigSep_erase' (i := main_v7_0) (by decide)]

theorem rest_congr (c : Dev nD) (Y) :
    (bigSep restIds (fun b => ((c : Thread nD τ).loc b) ↦{fullShare} Vy V c Y b) : sProp 𝕄) = bigSep restIds fun b => ((c : Thread nD τ).loc b) ↦{fullShare} V c b :=
  bigSep_congr fun b hb => by rw [Vy_ne V c Y b (Finset.ne_of_mem_erase hb)]

/-! ## The region -/

variable (adm : (p : Fin 2) → (pcfgs (F := F) p).Adm)

/-- The windows of the two calls of which nothing is said. -/
def fgs : (p : Fin 2) → Fin (Pipeline.pin (pcfgs (F := F)) adm p).W → Bool
  | ⟨0, _⟩ => fg0
  | ⟨1, _⟩ => fun _ => false

theorem Otc_none (c : Dev nD) (g : GSem nD τ sig) : (K (F := F)).Otc c 0 g none = 0 := by
  by_contra h
  have h' := SparseCore.Cfg.lev_of_Otc_pos (K := K (F := F)) (Nat.pos_of_ne_zero h)
  rw [SparseCore.Cfg.lev_none] at h'
  omega

set_option backward.isDefEq.respectTransparency.types false in
/-- The call as a region over the thread state. -/
def reg0 [∀ e, Nonempty (Elt F e)] :
    RDat.RegionSeg (pcfgs (F := F)) adm (Pipeline.toRsF (pcfgs (F := F)) adm (pdats V adm (dat0 V)) (fgs adm)) none defs₀ 𝒱₀ (K (F := F)).L (K (F := F)).lev 0 where
  win := launch0.win.to₀
  block_pos := launch0.block_pos
  stage_whole := launch0.stage_whole
  K := Fin 12
  osem := osem0
  ho := ownSemFacts0
  hbody c := (show BodyObligationLoose (pdats V adm (dat0 V) 0 c) (defs₀ (F := F)) 𝒱₀ none Set.univ (fgs (F := F) adm 0) from rank_obligation V c).toRForget
  hwaits c := RDat.cellsWaits_intro (Pipeline.pin (pcfgs (F := F)) adm) (Pipeline.toRsF (pcfgs (F := F)) adm (pdats V adm (dat0 V)) (fgs adm)) none 0 c
    fun w s t => (K (F := F)).mayWait_none _ (Otc_none c)
  pre c := iprop(unscopedBufs c (V c) ∗ owesStart (F := F) c)
  post c := iprop(∃ X Y, ⌜Ranked V c Y⌝ ∗ unscopedBufs c (Vq V c X Y) ∗ owesStart (F := F) c)
  X c := iprop(Pipeline.ownSems0 (Ix := HIx 1) (Name := ℕ) (U := UU) (Lvl := ℕ) (Val := Elt F) (τ := τ) osem0 c
    ∗ all c (Memref.whole main_arg3) fullShare (V c main_arg3) ∗ all c (Memref.whole main_arg9) fullShare (V c main_arg9)
    ∗ all c (Memref.whole main_v7_0) fullShare (V c main_v7_0) ∗ MayWaits (c : Thread nD τ) none ((K (F := F)).Otc c 0))
  Y c := iprop(all c (Memref.whole main_arg3) fullShare (V c main_arg3) ∗ all c (Memref.whole main_arg9) fullShare (V c main_arg9)
    ∗ ∃ Y, ⌜Ranked V c Y⌝ ∗ all c (Memref.whole main_v7_0) fullShare Y)
  Z c := bigSep restIds fun b => ((c : Thread nD τ).loc b) ↦{fullShare} V c b
  hentry c := by
    show _ ⊢ |={Set.univ}=> iprop((pdats V adm (dat0 V) 0 c).arrays ((pdats V adm (dat0 V) 0 c).arrAt · 0) ∗ Pipeline.prefHeld _ c (fun _ => fullShare) _
        ∗ (pdats V adm (dat0 V) 0 c).owesAt none 0 ∗ _ ∗ _)
    have hsplit := Pipeline.arrays_of_unscopedBufs (p := 0) (pcfgs (F := F)) adm (pdats V adm (dat0 V)) launch0.win launch0.arr_whole c
      ((pdats V adm (dat0 V) 0 c).share_full fun _ => rfl) (V c) fun _ => rfl
    iintro ⟨⟨Hub, HO⟩, Hos, HL⟩
    ihave HM := ((K (F := F)).mayWaits_none (thr := (c : Thread nD τ)) (Otc_none c)) $$ HL
    ihave H := hsplit $$ Hub
    icases H with ⟨Ha, Hrest⟩
    ihave Hrest := (Entails.of_eq (rest_eq c (V c))) $$ Hrest
    icases Hrest with ⟨H3, H9, Hl, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hos H3 H9 Hl HM]
    · isplitl [Hos]; · iexact Hos
      isplitl [H3]; · iexact H3
      isplitl [H9]; · iexact H9
      isplitl [Hl]; · iexact Hl
      iexact HM
    iexact Hrest
  hin c := by
    rw [show (Pipeline.toRsF (pcfgs (F := F)) adm (pdats V adm (dat0 V)) (fgs adm) 0 c).Φ 0 = PhiIn V c from Phi_start V c]
    unfold PhiIn
    iintro ⟨⟨Hos, H⟩, -, Hr⟩
    isplitl [Hr]; · iexact Hr
    isplitl [Hos]; · iexact Hos
    iexact H
  hout c := by
    rw [show (Pipeline.toRsF (pcfgs (F := F)) adm (pdats V adm (dat0 V)) (fgs adm) 0 c).Φ (Fin.last _) = PhiOut V c from Phi_end V c]
    unfold PhiOut
    iintro ⟨Hr, Hos, H⟩
    isplitl [H]; · iexact H
    isplitl [Hos]; · iexact Hos
    iexact Hr
  hexit c := by
    show iprop(((pdats V adm (dat0 V) 0 c).toRForget (fgs adm 0)).arraysAt cfg0.N ∗ (pdats V adm (dat0 V) 0 c).owesAt none (Fin.last cfg0.N) ∗ _ ∗ _) ⊢ _
    iintro ⟨Ha, HO, ⟨H3, H9, %Y, %hY, Hl⟩, Hrest⟩
    ihave Ha := ((pdats V adm (dat0 V) 0 c).arraysAt_forget (fgs adm 0) cfg0.N) $$ Ha
    icases Ha with ⟨%A, %hA, Ha⟩
    have hjoin := Pipeline.unscopedBufs_of_arrays (p := 0) (pcfgs (F := F)) adm (Ix := HIx 1) (Name := ℕ) (U := UU) (Lvl := ℕ) launch0.win launch0.arr_whole c
      (pdats V adm (dat0 V)) ((pdats V adm (dat0 V) 0 c).share_full fun _ => rfl) (Vy V c Y) (Vq V c (A 7) Y) A
      (fun w => by
        fin_cases w
        · exact ((hA 0 rfl).trans ((pdats V adm (dat0 V) 0 c).arrAt_in 0 rfl _)).trans (Vq_ne V c (A 7) Y main_arg0 (by decide) (by decide) (by decide)).symm
        · exact ((hA 1 rfl).trans ((pdats V adm (dat0 V) 0 c).arrAt_in 1 rfl _)).trans (Vq_ne V c (A 7) Y main_arg1 (by decide) (by decide) (by decide)).symm
        · exact ((hA 2 rfl).trans ((pdats V adm (dat0 V) 0 c).arrAt_in 2 rfl _)).trans (Vq_ne V c (A 7) Y main_v0 (by decide) (by decide) (by decide)).symm
        · exact ((hA 3 rfl).trans ((pdats V adm (dat0 V) 0 c).arrAt_in 3 rfl _)).trans (Vq_ne V c (A 7) Y main_v2 (by decide) (by decide) (by decide)).symm
        · exact ((hA 4 rfl).trans ((pdats V adm (dat0 V) 0 c).arrAt_in 4 rfl _)).trans (Vq_ne V c (A 7) Y main_v3 (by decide) (by decide) (by decide)).symm
        · exact ((hA 5 rfl).trans ((pdats V adm (dat0 V) 0 c).arrAt_in 5 rfl _)).trans (Vq_ne V c (A 7) Y main_v5 (by decide) (by decide) (by decide)).symm
        · exact ((hA 6 rfl).trans ((pdats V adm (dat0 V) 0 c).arrAt_in 6 rfl _)).trans (Vq_ne V c (A 7) Y main_v6 (by decide) (by decide) (by decide)).symm
        · exact (Vq_v7_1 V c (A 7) Y).symm
        · exact (hA 8 rfl).trans (Vq_v7_2 V c (A 7) Y).symm)
      (fun b hb => Vq_Vy V c (A 7) Y b (fun h => hb (h ▸ Finset.mem_image.mpr ⟨7, Finset.mem_univ _, rfl⟩)) (fun h => hb (h ▸ Finset.mem_image.mpr ⟨8, Finset.mem_univ _, rfl⟩)))
    ihave Hrest := (show (iprop(all c (Memref.whole main_arg3) fullShare (V c main_arg3) ∗ all c (Memref.whole main_arg9) fullShare (V c main_arg9)
        ∗ all c (Memref.whole main_v7_0) fullShare Y ∗ bigSep restIds fun b => ((c : Thread nD τ).loc b) ↦{fullShare} V c b) : sProp 𝕄)
        ⊢ Pipeline.unscopedRest (Ix := HIx 1) (Name := ℕ) (U := UU) (Lvl := ℕ) spec0 c (Vy V c Y) from by
      rw [rest_eq, rest_congr, Vy_v7_0, Vy_ne V c Y main_arg3 (by decide), Vy_ne V c Y main_arg9 (by decide)]) $$ [H3 H9 Hl Hrest]
    · isplitl [H3]; · iexact H3
      isplitl [H9]; · iexact H9
      isplitl [Hl]; · iexact Hl
      iexact Hrest
    imodintro
    iexists (A 7), Y
    isplitr; · ipureintro; exact hY
    isplitl [Ha Hrest]
    · iapply hjoin; isplitl [Ha]; · iexact Ha
      iexact Hrest
    unfold Pipeline.Dat.owesAt Pipeline.owesWithin
    icases HO with ⟨%W, %hW, HO⟩; iexists W
    isplitr
    · ipureintro
      intro p hp
      rcases hW hp with h | h
      · exact h
      · obtain ⟨w, s, rfl⟩ := h; exact Nat.zero_le _
    iexact HO

end Cert.Proof.Gath

end
-- ==== Proof.Main.lean ====
/-
  The whole program's run: @main's steps over the thread state "every unscoped buffer of the TensorCore at a valuation",
  the SparseCore call between the two TensorCore calls, and the final memory.
-/
module

public import proofs.«01_k».proof.Proof.Launch
public import proofs.«01_k».proof.Proof.RankRegion

@[expose] public section

set_option maxRecDepth 16384

noncomputable section

namespace Cert.Proof.Gath

open Cert.GatherIdeal Cert.GatherIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop)
open Idealize.ShloMosaic.StableHlo (held held_sub_split held_congr wp_hlo_within devRef_ne_of_ne)

variable {F : FTy → Type} [FloatOps F]

local notation "𝕄" => MT nD τ sig (HIx 1) (Elt F) ℕ UU ℕ

/-! ## The valuations @main goes through -/

section Run

variable (m : (ℓ : Loc nD τ sig) → Buf (Elt F) ℓ)

/-- The launch memory of device `d`, and it after each step of @main before the first TensorCore call: the biases
    reshaped, the last columns of the weights, of the biases and of the noise cut out. -/
abbrev V0 (d : Dev nD) : Valuation τ sig (Elt F) := fun b => m (d, b)
def V1 (d : Dev nD) : Valuation τ sig (Elt F) :=
  (StableHlo.reshape main_arg2 main_v0 (rfl : (.f32 : EltTy) = .f32) shapeCasts_S256_S1x256 : HloOp τ sig (Elt F)).result (V0 m d)
def V2 (d : Dev nD) : Valuation τ sig (Elt F) :=
  (StableHlo.reshape main_arg4 main_v1 (rfl : (.f32 : EltTy) = .f32) shapeCasts_S100000_S1x100000 : HloOp τ sig (Elt F)).result (V1 m d)
def V3 (d : Dev nD) : Valuation τ sig (Elt F) :=
  (StableHlo.unary main_v1 main_v2 ((extractStridedSlice S1x99968 ![0, 0] · slices_S1x100000_S1x99968_0_0) : (⟨S1x100000, .f32⟩ : BufTy).Contents (Elt F) → (⟨S1x99968, .f32⟩ : BufTy).Contents (Elt F)) : HloOp τ sig (Elt F)).result (V2 m d)
def V4 (d : Dev nD) : Valuation τ sig (Elt F) :=
  (StableHlo.unary main_arg3 main_v3 ((extractStridedSlice S256x32 ![0, 99968] · slices_S256x100000_S256x32_0_99968) : (⟨S256x100000, .f32⟩ : BufTy).Contents (Elt F) → (⟨S256x32, .f32⟩ : BufTy).Contents (Elt F)) : HloOp τ sig (Elt F)).result (V3 m d)
def V5 (d : Dev nD) : Valuation τ sig (Elt F) :=
  (StableHlo.reshape main_arg4 main_v4 (rfl : (.f32 : EltTy) = .f32) shapeCasts_S100000_S1x100000 : HloOp τ sig (Elt F)).result (V4 m d)
def V6 (d : Dev nD) : Valuation τ sig (Elt F) :=
  (StableHlo.unary main_v4 main_v5 ((extractStridedSlice S1x32 ![0, 99968] · slices_S1x100000_S1x32_0_99968) : (⟨S1x100000, .f32⟩ : BufTy).Contents (Elt F) → (⟨S1x32, .f32⟩ : BufTy).Contents (Elt F)) : HloOp τ sig (Elt F)).result (V5 m d)
def V7 (d : Dev nD) : Valuation τ sig (Elt F) :=
  (StableHlo.unary main_arg9 main_v6 ((extractStridedSlice S128x32 ![0, 99968] · slices_S128x100000_S128x32_0_99968) : (⟨S128x100000, .f32⟩ : BufTy).Contents (Elt F) → (⟨S128x32, .f32⟩ : BufTy).Contents (Elt F)) : HloOp τ sig (Elt F)).result (V6 m d)

/-- What the first TensorCore call finds, buffer by buffer. -/
abbrev Vs (d : Dev nD) (b : Ref sig .tc) : Buf (Elt F) ((d : Thread nD τ).loc b) := V7 m d b

/-- The row numbers, the table and what the gathered array held, as the SparseCore call finds them. -/
abbrev ixOf (d : Dev nD) : S8x16.Idx → BitVec 32 := shapeCast S8x16 (m ((d : Thread nD τ).loc main_arg10)) shapeCasts_S128_S8x16
abbrev tbOf (d : Dev nD) : S100000x64.Idx → Elt F .f32 := m ((d : Thread nD τ).loc main_arg5)
abbrev o0Of (d : Dev nD) : S128x64.Idx → Elt F .f32 := m ((d : Thread nD τ).loc main_v9)

section After

variable (X : S128x1.Idx → Elt F .i32) (Y : S128x100000.Idx → Elt F .f32)

/-- The memory when the first TensorCore call is over, having left `X` and `Y`, and after each later step: the row numbers
    reshaped, the gathered rows in place, the row of biases reshaped, the logits copied. -/
def A0 (d : Dev nD) : Valuation τ sig (Elt F) :=
  Function.update (Function.update (Function.update (V7 m d) (Proc.devRef .tc main_v7_0) Y) (Proc.devRef .tc main_v7_2) ((dat0 (Vs m) d).arrAt 8 cfg0.N))
    (Proc.devRef .tc main_v7_1) X
def B1 (d : Dev nD) : Valuation τ sig (Elt F) :=
  (StableHlo.reshape main_arg10 main_v8 (rfl : (.i32 : EltTy) = .i32) shapeCasts_S128_S8x16 : HloOp τ sig (Elt F)).result (A0 m X Y d)
def B2 (d : Dev nD) : Valuation τ sig (Elt F) := Function.update (B1 m X Y d) (Proc.devRef .tc main_v9) (gath (ixOf m d) (tbOf m d))
def B3 (d : Dev nD) : Valuation τ sig (Elt F) :=
  (StableHlo.reshape main_arg8 main_v10 (rfl : (.f32 : EltTy) = .f32) shapeCasts_S64_S1x64 : HloOp τ sig (Elt F)).result (B2 m X Y d)
def B4 (d : Dev nD) : Valuation τ sig (Elt F) := (StableHlo.unary main_v7_0 main_v11_1 id : HloOp τ sig (Elt F)).result (B3 m X Y d)

/-- What the last TensorCore call finds, buffer by buffer. -/
abbrev Vr (d : Dev nD) (b : Ref sig .tc) : Buf (Elt F) ((d : Thread nD τ).loc b) := B4 m X Y d b

theorem A0_eq (d : Dev nD) : (fun b : Ref sig .tc => A0 m X Y d b) = Vq (Vs m) d X Y := by
  funext b
  unfold A0
  by_cases h1 : b = main_v7_1
  · subst h1; exact (Function.update_self ..).trans (Vq_v7_1 (Vs m) d X Y).symm
  refine (Function.update_of_ne (devRef_ne_of_ne h1) _ _).trans ?_
  by_cases h2 : b = main_v7_2
  · subst h2; exact (Function.update_self ..).trans (Vq_v7_2 (Vs m) d X Y).symm
  refine (Function.update_of_ne (devRef_ne_of_ne h2) _ _).trans ?_
  by_cases h0 : b = main_v7_0
  · subst h0; exact (Function.update_self ..).trans (Vq_v7_0 (Vs m) d X Y).symm
  exact (Function.update_of_ne (devRef_ne_of_ne h0) _ _).trans (Vq_ne (Vs m) d X Y b h0 h1 h2).symm

/-- A buffer no step before the first TensorCore call writes, as that call finds it; -/
theorem Vs_keep (d : Dev nD) (b : Ref sig .tc) (h0 : b ≠ main_v0) (h1 : b ≠ main_v1) (h2 : b ≠ main_v2) (h3 : b ≠ main_v3) (h4 : b ≠ main_v4)
    (h5 : b ≠ main_v5) (h6 : b ≠ main_v6) : Vs m d b = m ((d : Thread nD τ).loc b) :=
  (StableHlo.unary_result_ne _ _ _ _ _ _ h6).trans ((StableHlo.unary_result_ne _ _ _ _ _ _ h5).trans ((StableHlo.reshape_result_ne _ _ _ _ _ _ _ h4).trans
    ((StableHlo.unary_result_ne _ _ _ _ _ _ h3).trans ((StableHlo.unary_result_ne _ _ _ _ _ _ h2).trans
      ((StableHlo.reshape_result_ne _ _ _ _ _ _ _ h1).trans (StableHlo.reshape_result_ne _ _ _ _ _ _ _ h0))))))

/-- and one that call does not write, once it is over. -/
theorem A0_keep (d : Dev nD) (b : Ref sig .tc) (h0 : b ≠ main_v7_0) (h1 : b ≠ main_v7_1) (h2 : b ≠ main_v7_2) : A0 m X Y d b = Vs m d b :=
  (congrFun (A0_eq m X Y d) b).trans (Vq_ne (Vs m) d X Y b h0 h1 h2)

theorem B1_v8 (d : Dev nD) : B1 m X Y d main_v8 = ixOf m d :=
  (StableHlo.reshape_result _ _ _ _ _ _ _).trans (by
    rw [A0_keep m X Y d main_arg10 (by decide) (by decide) (by decide),
      Vs_keep m d main_arg10 (by decide) (by decide) (by decide) (by decide) (by decide) (by decide) (by decide)]
    rfl)
theorem B1_arg5 (d : Dev nD) : B1 m X Y d main_arg5 = tbOf m d :=
  (StableHlo.reshape_result_ne _ _ _ _ _ _ _ (by decide)).trans ((A0_keep m X Y d main_arg5 (by decide) (by decide) (by decide)).trans
    (Vs_keep m d main_arg5 (by decide) (by decide) (by decide) (by decide) (by decide) (by decide) (by decide)))
theorem B1_v9 (d : Dev nD) : B1 m X Y d main_v9 = o0Of m d :=
  (StableHlo.reshape_result_ne _ _ _ _ _ _ _ (by decide)).trans ((A0_keep m X Y d main_v9 (by decide) (by decide) (by decide)).trans
    (Vs_keep m d main_v9 (by decide) (by decide) (by decide) (by decide) (by decide) (by decide) (by decide)))

theorem B2_v9 (d : Dev nD) : B2 m X Y d main_v9 = gath (ixOf m d) (tbOf m d) := Function.update_self ..
theorem B2_ne (d : Dev nD) {b : Ref sig .tc} (h : b ≠ main_v9) : B2 m X Y d b = B1 m X Y d b :=
  Function.update_of_ne (devRef_ne_of_ne h) _ _

end After

/-! ## The thread state -/

/-- The TensorCore's unscoped references. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = held (c : Thread nD τ) ucRefs W := by
  unfold unscopedBufs held ucRefs StableHlo.tcRefs
  rw [Finset.filter_map, bigSep_map]
  rfl

omit [FloatOps F] in
theorem launch_held (d : Dev nD) : (unscopedBufs d (fun b => m ((SparseCore.T d).loc b)) : sProp 𝕄) = held (SparseCore.T d) ucRefs (V0 m d) := by
  rw [← unscopedBufs_held]

theorem mem_ucRefs (b : Ref sig .tc) (h : b.isScoped = false) : (Proc.devRef .tc b : DevRef τ sig) ∈ ucRefs := by
  unfold ucRefs StableHlo.tcRefs
  refine Finset.mem_filter.mpr ⟨Finset.mem_map.mpr ⟨b, Finset.mem_univ _, rfl⟩, ?_⟩
  show ¬ b.isScoped = true
  rw [h]; decide

/-- The SparseCore call's three arrays. -/
def scRefs : Finset (DevRef τ sig) := {Proc.devRef .tc main_v8, Proc.devRef .tc main_arg5, Proc.devRef .tc main_v9}

theorem scRefs_sub : scRefs ⊆ ucRefs := by
  unfold scRefs
  intro b hb
  simp only [Finset.mem_insert, Finset.mem_singleton] at hb
  rcases hb with rfl | rfl | rfl <;> exact mem_ucRefs _ rfl

omit [FloatOps F] in
theorem held_sc (d : Dev nD) (W : Valuation τ sig (Elt F)) :
    (held (T d) scRefs W : sProp 𝕄)
      = iprop((iLoc d ↦{fullShare} W main_v8) ∗ (tLoc d ↦{fullShare} W main_arg5) ∗ oLoc d ↦{fullShare} W main_v9) := by
  unfold held scRefs
  rw [SparseCore.bigSep_insert' (by
      rw [Finset.mem_insert, Finset.mem_singleton]
      exact fun h => h.elim (devRef_ne_of_ne (by decide)) (devRef_ne_of_ne (by decide))),
    SparseCore.bigSep_insert' (by rw [Finset.mem_singleton]; exact devRef_ne_of_ne (by decide)), bigSep_singleton]

/-- The SparseCore call's step on the thread state: its arrays out of it, and back with the gathered rows. -/
theorem held_rest (X Y) (d : Dev nD) : (held (T d) (ucRefs \ scRefs) (B1 m X Y d) : sProp 𝕄) = held (T d) (ucRefs \ scRefs) (B2 m X Y d) :=
  held_congr _ fun b hb => (Function.update_of_ne (fun e => (Finset.mem_sdiff.mp hb).2 (by
    rw [e]; exact Finset.mem_insert_of_mem (Finset.mem_insert_of_mem (Finset.mem_singleton_self _)))) _ _).symm

/-! ## The launch element -/

abbrev adm (p : Fin 2) : (pcfgs (F := F) p).Adm := (cfgs p).toPCfg_adm

def u₀ : UU := (initOf (K (F := F)).hsCells (K (F := F)).hsToks,
  (initOf (Pipeline.cells (Pipeline.pin (pcfgs (F := F)) adm) cellOf_inj)
    (Pipeline.launchToks (Pipeline.pin (pcfgs (F := F)) adm) cellOf_inj), 1))

omit [FloatOps F] in
theorem bigSep_emp' {I : Type} (s : Finset I) : (bigSep s fun _ => iprop(emp)) = (iprop(emp) : sProp 𝕄) := bigSep_emp_const s

/-- The pipelines' ghost state on device `d`. -/
abbrev G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

abbrev Pm : (K (F := F)).Pay (nD := nD) (Val := Elt F) (Name := ℕ) (U := UU) := P (ixOf m) (tbOf m) (o0Of m)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave HR := (own_pair_emb embR _ _) $$ HR
  icases HR with ⟨HP, -⟩
  ihave HP := (show (BI.own (((Emb.inl : Emb UP (UP × Counters)).trans embR) _) : sProp 𝕄) ⊢ _ from
    Pipeline.fund_ghost (Pipeline.pin (pcfgs (F := F)) adm) (EP (F := F)) cellOf_inj) $$ HP
  imod HP
  icases HP with ⟨HP, HT⟩
  imodintro
  isplitl [HH]; · iexact HH
  isplitl [HP HT]
  · rw [bigSep_sep']
    isplitl [HP] <;> iassumption
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-! ## @main on the TensorCore -/

/-- What the TensorCore ends with: every unscoped buffer at the last valuation, from some `X` and some `Y` that holds the
    logits in every column but the last 32. -/
abbrev FIN (d : Dev nD) : sProp 𝕄 := iprop(∃ X Y, ⌜Ranked (Vs m) d Y⌝ ∗ unscopedBufs d (Vp (Vr m X Y) d))

theorem bufs_reshape {x y : Ref sig .tc} (he hn hx hy) (hx' : x.isScoped = false) (hy' : y.isScoped = false) :
    (StableHlo.reshape x y he hn hx hy : HloOp τ sig (Elt F)).bufs ⊆ ucRefs := by
  intro b hb
  simp only [StableHlo.reshape_bufs, Finset.mem_insert, Finset.mem_singleton] at hb
  rcases hb with rfl | rfl <;> exact mem_ucRefs _ ‹_›

theorem bufs_unary {x y : Ref sig .tc} (f hx hy) (hx' : x.isScoped = false) (hy' : y.isScoped = false) :
    (StableHlo.unary x y f hx hy : HloOp τ sig (Elt F)).bufs ⊆ ucRefs := by
  intro b hb
  simp only [StableHlo.unary_bufs, Finset.mem_insert, Finset.mem_singleton] at hb
  rcases hb with rfl | rfl <;> exact mem_ucRefs _ ‹_›

theorem sc_out (X Y) (d : Dev nD) :
    (held (T d) ucRefs (B1 m X Y d) : sProp 𝕄)
      ⊢ iprop(((bigSep Finset.univ fun c : Fin ((K (F := F)).nCore 0) => (Pm m).st 0 d c)
          ∗ (iLoc d ↦{shareDrop fullShare 2} ixOf m d) ∗ tLoc d ↦{shareDrop fullShare 2} tbOf m d) ∗ held (T d) (ucRefs \ scRefs) (B1 m X Y d)) := by
  rw [held_sub_split (T d) scRefs_sub, held_sc, B1_v8, B1_arg5, B1_v9]
  exact BI.sep_mono (st_split (ixOf m) (tbOf m) (o0Of m) d) (BI.Entails.refl _)

theorem sc_back (X Y) (d : Dev nD) :
    (iprop(((bigSep Finset.univ fun c : Fin ((K (F := F)).nCore 0) => (Pm m).dn 0 d c)
          ∗ (iLoc d ↦{shareDrop fullShare 2} ixOf m d) ∗ tLoc d ↦{shareDrop fullShare 2} tbOf m d) ∗ held (T d) (ucRefs \ scRefs) (B1 m X Y d)) : sProp 𝕄)
      ⊢ held (T d) ucRefs (B2 m X Y d) := by
  rw [held_sub_split (T d) scRefs_sub, held_sc, held_rest, B2_v9, B2_ne m X Y d (b := main_v8) (by decide), B2_ne m X Y d (b := main_arg5) (by decide),
    B1_v8, B1_arg5]
  exact BI.sep_mono (dn_join (ixOf m) (tbOf m) (o0Of m) d) (BI.Entails.refl _)

omit [FloatOps F] in
theorem bigSep_both (P : Fin 2 → sProp 𝕄) : bigSep Finset.univ P = iprop(P 0 ∗ P 1) := by
  rw [bigSep_univ_eq_bigSepL [(0 : Fin 2), (1 : Fin 2)] (by decide) (by decide)]
  rfl

/-- What the TensorCore owes before the SparseCore call, and the rest of its state then. -/
theorem tcSt_start (d : Dev nD) : ∃ R : sProp 𝕄, ((K (F := F)).tcSt EH d 0 : sProp 𝕄) = iprop(owesStart (F := F) d ∗ R) := by
  unfold SparseCore.Cfg.tcSt owesStart
  exact ⟨_, rfl⟩

/-- What the TensorCore owes when the SparseCore call is over, and the rest of its state then. -/
theorem tcSt_done (d : Dev nD) : ∃ R : sProp 𝕄, ((K (F := F)).tcSt EH d 1 : sProp 𝕄) = iprop(owesDone (F := F) d ∗ R) := by
  unfold SparseCore.Cfg.tcSt owesDone
  rw [(K (F := F)).Otc_end d (le_refl 1)]
  exact ⟨_, rfl⟩

set_option maxHeartbeats 1000000 in
/-- @main on device `d`'s TensorCore. -/
theorem hmain [∀ e, Nonempty (Elt F e)] (ρ : Dev nD → PrngReg) (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_done (F := F) d
  obtain ⟨R0, hR0⟩ := tcSt_start (F := F) d
  rw [hR0]
  unfold SparseCore.Cfg.tcRes SparseCore.Cfg.tcEnd
  rw [launch_held]
  simp only [main, wp_bind, wp_pure]
  iintro ⟨#Hctx, ⟨HO, HR0⟩, ⟨Hb, Hub, Hts, -⟩, HG⟩
  icases HG with ⟨HG, HT⟩
  ihave HG := (Entails.of_eq (bigSep_both _)) $$ HG
  ihave HT := (Entails.of_eq (bigSep_both _)) $$ HT
  icases HG with ⟨HG0, HG1⟩
  icases HT with ⟨HT0, HT1⟩
  ihave #Hlv := (SparseCore.Cfg.ctx_levAts κ) $$ Hctx
  iapply (wp_hlo_within 𝒱 (T d) none Set.univ (S := ucRefs) (V := V0 m d) (bufs_reshape _ _ _ _ rfl rfl)) $$ [Hb Hub]
  · isplitl [Hb] <;> iassumption
  iintro ⟨Hb, Hub⟩
  rw [wp_ret, show HloOp.result _ (V0 m d) = V1 m d from rfl]
  imodintro
  iapply (wp_hlo_within 𝒱 (T d) none Set.univ (S := ucRefs) (V := V1 m d) (bufs_reshape _ _ _ _ rfl rfl)) $$ [Hb Hub]
  · isplitl [Hb] <;> iassumption
  iintro ⟨Hb, Hub⟩
  rw [wp_ret, show HloOp.result _ (V1 m d) = V2 m d from rfl]
  imodintro
  iapply (wp_hlo_within 𝒱 (T d) none Set.univ (S := ucRefs) (V := V2 m d) (bufs_unary _ _ _ rfl rfl)) $$ [Hb Hub]
  · isplitl [Hb] <;> iassumption
  iintro ⟨Hb, Hub⟩
  rw [wp_ret, show HloOp.result _ (V2 m d) = V3 m d from rfl]
  imodintro
  iapply (wp_hlo_within 𝒱 (T d) none Set.univ (S := ucRefs) (V := V3 m d) (bufs_unary _ _ _ rfl rfl)) $$ [Hb Hub]
  · isplitl [Hb] <;> iassumption
  iintro ⟨Hb, Hub⟩
  rw [wp_ret, show HloOp.result _ (V3 m d) = V4 m d from rfl]
  imodintro
  iapply (wp_hlo_within 𝒱 (T d) none Set.univ (S := ucRefs) (V := V4 m d) (bufs_reshape _ _ _ _ rfl rfl)) $$ [Hb Hub]
  · isplitl [Hb] <;> iassumption
  iintro ⟨Hb, Hub⟩
  rw [wp_ret, show HloOp.result _ (V4 m d) = V5 m d from rfl]
  imodintro
  iapply (wp_hlo_within 𝒱 (T d) none Set.univ (S := ucRefs) (V := V5 m d) (bufs_unary _ _ _ rfl rfl)) $$ [Hb Hub]
  · isplitl [Hb] <;> iassumption
  iintro ⟨Hb, Hub⟩
  rw [wp_ret, show HloOp.result _ (V5 m d) = V6 m d from rfl]
  imodintro
  iapply (wp_hlo_within 𝒱 (T d) none Set.univ (S := ucRefs) (V := V6 m d) (bufs_unary _ _ _ rfl rfl)) $$ [Hb Hub]
  · isplitl [Hb] <;> iassumption
  iintro ⟨Hb, Hub⟩
  rw [wp_ret, show HloOp.result _ (V6 m d) = V7 m d from rfl]
  imodintro
  ihave Hub := (Entails.of_eq (unscopedBufs_held d (V7 m d)).symm) $$ Hub
  iapply ((K (F := F)).wp_liftProg (D (F := F)) 𝒱 (T d) Set.univ none (Prog.lift (.customCall (Pipeline.entry 0) ())) _)
  iapply (Pipeline.RDat.RegionSeg.wp (pcfgs (F := F)) adm (Pipeline.toRsF (pcfgs (F := F)) adm (pdats (Vs m) adm (dat0 (Vs m))) (fgs adm)) none cellOf_inj (EP (F := F)) defs₀ 𝒱₀
    (K (F := F)).L (K (F := F)).lev (reg0 (Vs m) adm) d none (fun u hu => nomatch hu) _ _) $$ [-]
  isplitr [Hb Hub HO HG0 HT0]
  rotate_left
  · isplitl [Hb]; · iexact Hb
    isplitl [Hub HO]
    · iapply (show (iprop(unscopedBufs d (Vs m d) ∗ owesStart (F := F) d) : sProp 𝕄) ⊢ (reg0 (Vs m) adm).pre d from BI.Entails.refl _)
      isplitl [Hub] <;> iassumption
    isplitr; · iexact Hlv
    isplitl [HG0] <;> iassumption
  iintro ⟨Hb, Hpost⟩
  ihave Hpost := (show (reg0 (Vs m) adm).post d ⊢ (iprop(∃ X Y, ⌜Ranked (Vs m) d Y⌝ ∗ unscopedBufs d (Vq (Vs m) d X Y) ∗ owesStart (F := F) d) : sProp 𝕄) from BI.Entails.refl _) $$ Hpost
  icases Hpost with ⟨%X, %Y, %hY, Hub, HO⟩
  rw [wp_ret]
  imodintro
  rw [← A0_eq m X Y d]
  ihave Hub := (Entails.of_eq (unscopedBufs_held d (A0 m X Y d))) $$ Hub
  iapply (wp_hlo_within 𝒱 (T d) none Set.univ (S := ucRefs) (V := A0 m X Y d) (bufs_reshape _ _ _ _ rfl rfl)) $$ [Hb Hub]
  · isplitl [Hb] <;> iassumption
  iintro ⟨Hb, Hub⟩
  rw [wp_ret, show HloOp.result _ (A0 m X Y d) = B1 m X Y d from rfl]
  imodintro
  ihave Hub := (sc_out m X Y d) $$ Hub
  icases Hub with ⟨⟨Hsc, Hkeep⟩, Hrest⟩
  ihave Hst := (Entails.of_eq hR0.symm) $$ [HO HR0]
  · isplitl [HO] <;> iassumption
  iapply ((K (F := F)).wp_run (D (F := F)) 𝒱 (EH := EH) (P := Pm m) κ d 0) $$ [-]
  isplitr; · iexact Hctx
  isplitl [Hst]; · iexact Hst
  isplitl [Hsc]; · iexact Hsc
  iintro ⟨Hst, Hdn⟩
  ihave Hub := (sc_back m X Y d) $$ [Hdn Hkeep Hrest]
  · isplitl [Hdn Hkeep]; · isplitl [Hdn] <;> iassumption
    iexact Hrest
  iapply (wp_hlo_within 𝒱 (T d) none Set.univ (S := ucRefs) (V := B2 m X Y d) (bufs_reshape _ _ _ _ rfl rfl)) $$ [Hb Hub]
  · isplitl [Hb] <;> iassumption
  iintro ⟨Hb, Hub⟩
  rw [wp_ret, show HloOp.result _ (B2 m X Y d) = B3 m X Y d from rfl]
  imodintro
  iapply (wp_hlo_within 𝒱 (T d) none Set.univ (S := ucRefs) (V := B3 m X Y d) (bufs_unary _ _ _ rfl rfl)) $$ [Hb Hub]
  · isplitl [Hb] <;> iassumption
  iintro ⟨Hb, Hub⟩
  rw [wp_ret, show HloOp.result _ (B3 m X Y d) = B4 m X Y d from rfl]
  imodintro
  ihave Hub := (Entails.of_eq (unscopedBufs_held d (B4 m X Y d)).symm) $$ Hub
  rw [show ((0 : Fin 1).val + 1) = 1 from rfl]
  ihave Hst := (Entails.of_eq hR) $$ Hst
  icases Hst with ⟨HO, HR⟩
  iapply ((K (F := F)).wp_liftProg (D (F := F)) 𝒱 (T d) Set.univ none (Prog.lift (.customCall (Pipeline.entry 1) ())) _)
  iapply (Pipeline.RegionSeg.wp (pcfgs (F := F)) adm (pdats (Vr m X Y) adm (dat0 (Vs m))) none cellOf_inj (EP (F := F)) defs₀ 𝒱₀ (K (F := F)).L (K (F := F)).lev
    (reg (Vr m X Y) adm (dat0 (Vs m))) d none (fun u hu => nomatch hu) _ _) $$ [-]
  isplitr [Hb Hub HO HG1 HT1]
  · iintro ⟨Hb, Hpost⟩
    ihave Hpost := (show (reg (Vr m X Y) adm (dat0 (Vs m))).post d ⊢ (iprop(unscopedBufs d (Vp (Vr m X Y) d) ∗ owesDone (F := F) d) : sProp 𝕄) from BI.Entails.refl _) $$ Hpost
    icases Hpost with ⟨Hub, HO⟩
    rw [wp_ret]
    imodintro
    imodintro
    isplitl [HO HR]
    · iapply (Entails.of_eq hR.symm); isplitl [HO] <;> iassumption
    isplitl [Hub]
    · iexists X, Y
      isplitr; · ipureintro; exact hY
      iexact Hub
    isplitl [Hb] <;> iassumption
  isplitl [Hb]; · iexact Hb
  isplitl [Hub HO]
  · iapply (show (iprop(unscopedBufs d (Vr m X Y d) ∗ owesDone (F := F) d) : sProp 𝕄) ⊢ (reg (Vr m X Y) adm (dat0 (Vs m))).pre d from BI.Entails.refl _)
    isplitl [Hub] <;> iassumption
  isplitr; · iexact Hlv
  isplitl [HG1] <;> iassumption

/-! ## The final memory -/

/-- The final memory: every unscoped buffer of every TensorCore at the last valuation. -/
def fq (d : Dev nD) (s' : Phys nD τ sig (Elt F)) : Prop :=
  ∃ X Y, Ranked (Vs m) d Y ∧ ∀ b : Ref sig .tc, b.isScoped = false → s'.mem.mem ((d : Thread nD τ).loc b) = Vp (Vr m X Y) d b

omit [FloatOps F] in
theorem bufs_read (d : Dev nD) (W : (b : Ref sig .tc) → Buf (Elt F) ((d : Thread nD τ).loc b)) (s' : Phys nD τ sig (Elt F)) :
    iprop(unscopedBufs d W ∗ SI s') ⊢ (⌜∀ b : Ref sig .tc, b.isScoped = false → s'.mem.mem ((d : Thread nD τ).loc b) = W b⌝ : sProp 𝕄) := by
  have key : ∀ b : Ref sig .tc, b.isScoped = false →
      (iprop(unscopedBufs d W ∗ SI s') : sProp 𝕄) ⊢ ⌜s'.mem.mem ((d : Thread nD τ).loc b) = W b⌝ := by
    intro b hb
    have hmem : b ∈ Finset.univ.filter fun b : Ref sig .tc => ¬ b.isScoped := Finset.mem_filter.mpr ⟨Finset.mem_univ _, by rw [hb]; decide⟩
    unfold unscopedBufs
    rw [← Finset.insert_erase hmem, SparseCore.bigSep_insert' (Finset.notMem_erase _ _)]
    iintro ⟨⟨Hx, -⟩, HSI⟩
    icombine HSI Hx gives %hx
    ipureintro
    exact Buf.eq_of_forall_mem_univ hx
  by_cases h : ∀ b : Ref sig .tc, b.isScoped = false → s'.mem.mem ((d : Thread nD τ).loc b) = W b
  · iintro -; ipureintro; exact h
  · push Not at h
    obtain ⟨b, hb, hne⟩ := h
    refine (key b hb).trans ?_
    iintro %e
    exact absurd e hne

theorem hfin (d : Dev nD) (s' : Phys nD τ sig (Elt F)) : iprop(FIN m d ∗ SI s') ⊢ (⌜fq m d s'⌝ : sProp 𝕄) := by
  iintro ⟨⟨%X, %Y, %hY, Hub⟩, HSI⟩
  ihave H := (bufs_read d (Vp (Vr m X Y) d) s') $$ [Hub HSI]
  · isplitl [Hub] <;> iassumption
  icases H with %h
  ipureintro
  exact ⟨X, Y, hY, h⟩

/-! ## The run -/

def QC : PUnit × MemSt nD τ sig (Elt F) → Prop :=
  fun r => (∀ d : Dev nD, ∃ X Y, Ranked (Vs m) d Y ∧ ∀ b : Ref sig .tc, b.isScoped = false → r.2.mem ((d : Thread nD τ).loc b) = Vp (Vr m X Y) d b) ∧ r.2.sem = fun _ => 0

theorem run_main [∀ e, Nonempty (Elt F e)] (ρ : Dev nD → PrngReg) (hix : ∀ d, InRows (ixOf m d)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (ixOf m) (tbOf m) (o0Of m) facts hix)
    (fun q _ => match q with | 0 => SparseCore.Cfg.VecSplit.of_plain (vecSplit (ixOf m) (tbOf m) (o0Of m)))
    m ρ main (fun d => G (F := F) d) (FIN m) (u₀ (F := F)) (sep_elim_left.trans (hu₀ m)) (hmain m ρ) (fq m) (hfin m) (QC m) (fun _ h hz => ⟨h, hz⟩)

end Run

end Cert.Proof.Gath

end
-- ==== Proof.Value.lean ====
/-
  What the results hold: the arrays the two TensorCore calls write, entry by entry, and at the ideal values their
  equality with the reference's terms.
-/
module

public import proofs.«01_k».proof.Proof.Main
public import proofs.«01_k».proof.Proof.Gen.Pre_index_in_rows
public import proofs.«01_k».proof.Proof.Gen.GatherRefIdeal
public import Idealize.ShloMosaic.Lib.KernelVsHost
public import Idealize.ShloMosaic.Lib.StackMember
public import Idealize.ShloMosaic.Lib.LaneScatter.Tiles

@[expose] public section

set_option maxRecDepth 16384

noncomputable section

namespace Cert.Proof.Gath

open Cert.GatherIdeal Cert.GatherIdeal.Gen
open Idealize.ShloMosaic Idealize.ShloMosaic.TcCoe
open Idealize.ShloMosaic.Pipeline (Dat Cfg Window)
open Idealize.SL.Sem

section Merge

variable {F : FTy → Type} [FloatOps F] [∀ e, Nonempty (Elt F e)]
variable (V : (c : Dev nD) → (b : Ref sig .tc) → Buf (Elt F) ((c : Thread nD τ).loc b))

theorem hz2 : (![0, 0] : Fin 2 → Nat) = fun _ => 0 := by decide

/-- A whole buffer stored whole, at offsets zero, holds the payload. -/
theorem whole_store (b : Ref sig .tc) (f : b.ty.Contents (Elt F)) {off : Fin b.ty.shape.rank → ℕ} (h : off = fun _ => 0)
    (inb : ∀ a, off a + b.ty.shape.size a ≤ b.ty.shape.size a) (w : b.ty.shape.Idx → Elt F b.ty.elt) :
    (Memref.whole b : Memref sig .tc _ _ _).view.writes (Elt F) f [⟨Rect.unit off b.ty.shape.size inb, w⟩] = w :=
  (View.read_whole (Val := Elt F) b _).symm.trans (LaneScatter.read_whole_store (View.whole b) f (fun a => congrFun h a) inb w)

/-! The operands as staged are the operands: each one's one block is the whole array. -/

theorem stg0_eq (c : Dev nD) : stg0 V c = V c main_arg0 := by
  funext j
  refine (View.read_apply ..).trans ((cast_eq _ _).trans (congrArg (V c main_arg0) ?_))
  funext a; apply Fin.ext
  match a with
  | ⟨0, _⟩ => show 0 * 128 + 1 * (j 0).val = (j 0).val; omega
  | ⟨1, _⟩ => show 0 * 64 + 1 * (j 1).val = (j 1).val; omega
theorem stg1_eq (c : Dev nD) : stg1 V c = V c main_v9 := by
  funext j
  refine (View.read_apply ..).trans ((cast_eq _ _).trans (congrArg (V c main_v9) ?_))
  funext a; apply Fin.ext
  match a with
  | ⟨0, _⟩ => show 0 * 128 + 1 * (j 0).val = (j 0).val; omega
  | ⟨1, _⟩ => show 0 * 64 + 1 * (j 1).val = (j 1).val; omega
theorem stg2_eq (c : Dev nD) : stg2 V c = V c main_arg6 := by
  funext j
  refine (View.read_apply ..).trans ((cast_eq _ _).trans (congrArg (V c main_arg6) ?_))
  funext a; apply Fin.ext
  match a with
  | ⟨0, _⟩ => show 0 * 64 + 1 * (j 0).val = (j 0).val; omega
  | ⟨1, _⟩ => show 0 * 64 + 1 * (j 1).val = (j 1).val; omega
theorem stg3_eq (c : Dev nD) : stg3 V c = V c main_arg7 := by
  funext j
  refine (View.read_apply ..).trans ((cast_eq _ _).trans (congrArg (V c main_arg7) ?_))
  funext a; apply Fin.ext
  match a with
  | ⟨0, _⟩ => show 0 * 64 + 1 * (j 0).val = (j 0).val; omega
  | ⟨1, _⟩ => show 0 * 64 + 1 * (j 1).val = (j 1).val; omega
theorem stg4_eq (c : Dev nD) : stg4 V c = V c main_v10 := by
  funext j
  refine (View.read_apply ..).trans ((cast_eq _ _).trans (congrArg (V c main_v10) ?_))
  funext a; apply Fin.ext
  match a with
  | ⟨0, _⟩ => show 0 * 1 + 1 * (j 0).val = (j 0).val; omega
  | ⟨1, _⟩ => show 0 * 64 + 1 * (j 1).val = (j 1).val; omega
theorem stg5_eq (c : Dev nD) : stg5 V c = V c main_v7_2 := by
  funext j
  refine (View.read_apply ..).trans ((cast_eq _ _).trans (congrArg (V c main_v7_2) ?_))
  funext a; apply Fin.ext
  match a with
  | ⟨0, _⟩ => show 0 * 128 + 1 * (j 0).val = (j 0).val; omega
  | ⟨1, _⟩ => show 0 * 32 + 1 * (j 1).val = (j 1).val; omega

/-- What the body leaves for its first result, and for its second. -/
theorem Krun_fst (c : Dev nD) : (Krun V c).1.1 = k2_pay1 (V c main_arg0) (V c main_arg6) (V c main_v9) (V c main_arg7) (V c main_v10) := by
  refine (show (Krun V c).1.1 = (stage2_6 0).view.writes (Elt F) (stage2_6 0).view.junk (mergerRun.sl.H6_1 c (stage2_0 0) (stage2_1 0)
    (stage2_2 0) (stage2_3 0) (stage2_4 0) (stg0 V c) (stg1 V c) (stg2 V c) (stg3 V c) (stg4 V c)) from rfl).trans ?_
  unfold mergerRun.sl.H6_1
  refine (whole_store cc2_stg6_0 _ hz2 _ _).trans ?_
  rw [← stg0_eq V, ← stg1_eq V, ← stg2_eq V, ← stg3_eq V, ← stg4_eq V]
  congr 1 <;> exact Memref.readAt_unit_zero (Elt F) _ hz2 _ _

theorem Krun_snd (c : Dev nD) : (Krun V c).1.2 = k2_pay2 (V c main_v7_2) := by
  refine (show (Krun V c).1.2 = (stage2_7 0).view.writes (Elt F) (stage2_7 0).view.junk (mergerRun.sl.H7_1 c (stage2_5 0) (stg5 V c)) from rfl).trans ?_
  unfold mergerRun.sl.H7_1
  refine (whole_store cc2_stg7_0 _ hz2 _ _).trans ?_
  rw [← stg5_eq V]
  congr 1; exact Memref.readAt_unit_zero (Elt F) _ hz2 _ _

/-! The written arrays. -/

theorem emb6 (y : S128x64.Idx) : ((cfg2.win 6).blk t2_0).view.emb y = y := by
  funext a; apply Fin.ext
  match a with
  | ⟨0, _⟩ => show 0 * 128 + 1 * (y 0).val = (y 0).val; omega
  | ⟨1, _⟩ => show 0 * 64 + 1 * (y 1).val = (y 1).val; omega

theorem one_point (w : Fin cfg2.W) : ∀ t t' : Fin cfg2.N, (cfg2.win w).flush t = true → (cfg2.win w).flush t' = true → t ≠ t' →
    Disjoint ((cfg2.win w).blk t).view.set ((cfg2.win w).blk t').view.set :=
  fun t t' _ _ h => absurd ((fin_N2 t).trans (fin_N2 t').symm) h

theorem arr6 (c : Dev nD) : (dat V c).arrAt 6 cfg2.N = k2_pay1 (V c main_arg0) (V c main_arg6) (V c main_v9) (V c main_arg7) (V c main_v10) := by
  rw [← Krun_fst]
  funext y
  refine (congrArg _ (emb6 y).symm).trans (((dat V c).arrAt_emb_eq_flushed 6 (one_point 6) t2_0 (flush2_6 t2_0) y).trans ((cast_eq _ _).trans ?_))
  rfl

/-- The second result's block inside its array: the last 32 columns. -/
abbrev X7 : Shape := (cfg2.win 7).xblock (cfg2.grid.coords t2_0)
theorem X7_size0 : X7.size (0 : Fin 2) = 128 := by decide +kernel
theorem X7_size1 : X7.size (1 : Fin 2) = 32 := by decide +kernel

/-- A row and one of the 32 columns, as an index of that block. -/
def x7 (p : Fin 128) (q : Fin 32) : X7.Idx := fun a => ⟨if a.val = 0 then p.val else q.val, by
  have key : ∀ a : Fin 2, (if a.val = 0 then p.val else q.val) < X7.size a := by
    intro a
    match a with
    | 0 => rw [X7_size0]; exact p.isLt
    | 1 => rw [X7_size1]; exact q.isLt
  exact key a⟩
theorem x7_0 (p : Fin 128) (q : Fin 32) : (x7 p q (0 : Fin 2)).val = p.val := by
  show (if ((0 : Fin 2) : ℕ) = 0 then p.val else q.val) = p.val
  exact if_pos rfl
theorem x7_1 (p : Fin 128) (q : Fin 32) : (x7 p q (1 : Fin 2)).val = q.val := by
  show (if ((1 : Fin 2) : ℕ) = 0 then p.val else q.val) = q.val
  exact if_neg Nat.one_ne_zero

theorem emb7_0 (y : X7.Idx) : (((cfg2.win 7).blk t2_0).view.emb y (0 : Fin 2)).val = (y (0 : Fin 2)).val := by
  show 0 * 128 + 1 * (y (0 : Fin 2)).val = (y (0 : Fin 2)).val; omega
theorem emb7_1 (y : X7.Idx) : (((cfg2.win 7).blk t2_0).view.emb y (1 : Fin 2)).val = 99968 + (y (1 : Fin 2)).val := by
  show 781 * 128 + 1 * (y (1 : Fin 2)).val = 99968 + (y (1 : Fin 2)).val; omega

theorem arr7_tail (c : Dev nD) (p : Fin 128) (q : Fin 32) :
    (dat V c).arrAt 7 cfg2.N (((cfg2.win 7).blk t2_0).view.emb (x7 p q)) = V c main_v7_2 (ValueIdx.ix2 p q) := by
  refine ((dat V c).arrAt_emb_eq_flushed 7 (one_point 7) t2_0 (flush2_7 t2_0) (x7 p q)).trans ((cast_eq _ _).trans ?_)
  show (Krun V c).1.2 _ = _
  rw [Krun_snd]
  unfold k2_pay2
  simp only [shapeCast_self]
  have e0 : ((cfg2.win 7).xinj (cfg2.grid.coords t2_0) (x7 p q) (0 : Fin 2)).val = p.val := x7_0 p q
  have e1 : ((cfg2.win 7).xinj (cfg2.grid.coords t2_0) (x7 p q) (1 : Fin 2)).val = q.val := x7_1 p q
  refine concatenate_pair_apply_left (t := S128x128) (s₁ := S128x32) (s₂ := S128x96) (1 : Fin 2) _ _ _ _ rfl (ValueIdx.ix2 p q) fun b => ?_
  generalize (cfg2.win 7).xinj (cfg2.grid.coords t2_0) (x7 p q) = y at e0 e1
  match b with
  | ⟨0, _⟩ => exact e0.symm
  | ⟨1, _⟩ => exact e1.symm

theorem arr7_rest (c : Dev nD) (j : S128x100000.Idx) (h : (j 1).val < 99968) : (dat V c).arrAt 7 cfg2.N j = V c main_v11_1 j := by
    refine (dat V c).arrAt_apply_of_forall_not_mem 7 cfg2.N j fun t _ _ hm => ?_
    obtain rfl := fin_N2 t
    obtain ⟨y, -, e⟩ := Finset.mem_map.mp hm
    have := emb7_1 y
    rw [e] at this
    omega

end Merge

section Rank

variable {F : FTy → Type} [FloatOps F] [∀ e, Nonempty (Elt F e)]
variable (V : (c : Dev nD) → (b : Ref sig .tc) → Buf (Elt F) ((c : Thread nD τ).loc b))

/-! The first TensorCore call's operands as staged, and the array of its last 32 columns. -/

theorem ops0_eq (c : Dev nD) : ops0 V c = V c main_arg0 := by
  funext j
  refine (View.read_apply ..).trans ((cast_eq _ _).trans (congrArg (V c main_arg0) ?_))
  funext a; apply Fin.ext
  match a with
  | ⟨0, _⟩ => show 0 * 128 + 1 * (j 0).val = (j 0).val; omega
  | ⟨1, _⟩ => show 0 * 64 + 1 * (j 1).val = (j 1).val; omega
theorem ops1_eq (c : Dev nD) : ops1 V c = V c main_arg1 := by
  funext j
  refine (View.read_apply ..).trans ((cast_eq _ _).trans (congrArg (V c main_arg1) ?_))
  funext a; apply Fin.ext
  match a with
  | ⟨0, _⟩ => show 0 * 64 + 1 * (j 0).val = (j 0).val; omega
  | ⟨1, _⟩ => show 0 * 256 + 1 * (j 1).val = (j 1).val; omega
theorem ops2_eq (c : Dev nD) : ops2 V c = V c main_v0 := by
  funext j
  refine (View.read_apply ..).trans ((cast_eq _ _).trans (congrArg (V c main_v0) ?_))
  funext a; apply Fin.ext
  match a with
  | ⟨0, _⟩ => show 0 * 1 + 1 * (j 0).val = (j 0).val; omega
  | ⟨1, _⟩ => show 0 * 256 + 1 * (j 1).val = (j 1).val; omega
theorem ops3_eq (c : Dev nD) : ops3 V c = V c main_v2 := by
  funext j
  refine (View.read_apply ..).trans ((cast_eq _ _).trans (congrArg (V c main_v2) ?_))
  funext a; apply Fin.ext
  match a with
  | ⟨0, _⟩ => show 0 * 1 + 1 * (j 0).val = (j 0).val; omega
  | ⟨1, _⟩ => show 0 * 99968 + 1 * (j 1).val = (j 1).val; omega
theorem ops4_eq (c : Dev nD) : ops4 V c = V c main_v3 := by
  funext j
  refine (View.read_apply ..).trans ((cast_eq _ _).trans (congrArg (V c main_v3) ?_))
  funext a; apply Fin.ext
  match a with
  | ⟨0, _⟩ => show 0 * 256 + 1 * (j 0).val = (j 0).val; omega
  | ⟨1, _⟩ => show 0 * 32 + 1 * (j 1).val = (j 1).val; omega
theorem ops5_eq (c : Dev nD) : ops5 V c = V c main_v5 := by
  funext j
  refine (View.read_apply ..).trans ((cast_eq _ _).trans (congrArg (V c main_v5) ?_))
  funext a; apply Fin.ext
  match a with
  | ⟨0, _⟩ => show 0 * 1 + 1 * (j 0).val = (j 0).val; omega
  | ⟨1, _⟩ => show 0 * 32 + 1 * (j 1).val = (j 1).val; omega

theorem hid0_eq (c : Dev nD) : hid0 V c = k0_pay1 (V c main_arg0) (V c main_arg1) (V c main_v0) := by
  rw [← ops0_eq V, ← ops1_eq V, ← ops2_eq V]
  unfold hid0 hid
  congr 1 <;> exact Memref.readAt_unit_zero (Elt F) _ hz2 _ _

theorem tail0_eq (c : Dev nD) : tail0 V c = k0_pay193 (k0_pay192 (hid0 V c) (V c main_v3)) (V c main_v5) := by
  rw [← ops4_eq V, ← ops5_eq V]
  unfold tail0 tailOf
  congr 1
  · congr 1; exact Memref.readAt_unit_zero (Elt F) _ hz2 _ _
  · exact Memref.readAt_unit_zero (Elt F) _ hz2 _ _

theorem emb8 (y : S128x32.Idx) : ((cfg0.win 8).blk t0_0).view.emb y = y := by
  funext a; apply Fin.ext
  match a with
  | ⟨0, _⟩ => show 0 * 128 + 1 * (y 0).val = (y 0).val; omega
  | ⟨1, _⟩ => show 0 * 32 + 1 * (y 1).val = (y 1).val; omega

theorem arr8 (c : Dev nD) : (dat0 V c).arrAt 8 cfg0.N = tail0 V c := by
  funext y
  refine (congrArg _ (emb8 y).symm).trans (((dat0 V c).arrAt_emb_eq_flushed 8
    (fun t t' _ _ h => absurd ((fin_N0 t).trans (fin_N0 t').symm) h) t0_0 (flush0_8 t0_0) y).trans ((cast_eq _ _).trans ?_))
  rfl

end Rank

section Args

variable {F : FTy → Type} [FloatOps F] [∀ e, Nonempty (Elt F e)]
variable (m : (ℓ : Loc nD τ sig) → Buf (Elt F) ℓ)

/-! What the first TensorCore call finds in the arrays the steps before it write. -/

theorem Vs_v0 (d : Dev nD) : Vs m d main_v0 = shapeCast S1x256 (m ((d : Thread nD τ).loc main_arg2)) shapeCasts_S256_S1x256 :=
  (StableHlo.unary_result_ne _ _ _ _ _ _ (by decide)).trans ((StableHlo.unary_result_ne _ _ _ _ _ _ (by decide)).trans ((StableHlo.reshape_result_ne _ _ _ _ _ _ _ (by decide)).trans
    ((StableHlo.unary_result_ne _ _ _ _ _ _ (by decide)).trans ((StableHlo.unary_result_ne _ _ _ _ _ _ (by decide)).trans
      ((StableHlo.reshape_result_ne _ _ _ _ _ _ _ (by decide)).trans (StableHlo.reshape_result _ _ _ _ _ _ _))))))

theorem Vs_v2 (d : Dev nD) : Vs m d main_v2
    = extractStridedSlice S1x99968 ![0, 0] (shapeCast S1x100000 (m ((d : Thread nD τ).loc main_arg4)) shapeCasts_S100000_S1x100000) slices_S1x100000_S1x99968_0_0 := by
  have e : V2 m d main_v1 = shapeCast S1x100000 (m ((d : Thread nD τ).loc main_arg4)) shapeCasts_S100000_S1x100000 :=
    (StableHlo.reshape_result _ _ _ _ _ _ _).trans (by
      rw [show V1 m d main_arg4 = m ((d : Thread nD τ).loc main_arg4) from StableHlo.reshape_result_ne _ _ _ _ _ _ _ (by decide)]
      rfl)
  rw [← e]
  exact (StableHlo.unary_result_ne _ _ _ _ _ _ (by decide)).trans ((StableHlo.unary_result_ne _ _ _ _ _ _ (by decide)).trans
    ((StableHlo.reshape_result_ne _ _ _ _ _ _ _ (by decide)).trans ((StableHlo.unary_result_ne _ _ _ _ _ _ (by decide)).trans (StableHlo.unary_result _ _ _ _ _ _))))

theorem Vs_v3 (d : Dev nD) : Vs m d main_v3
    = extractStridedSlice S256x32 ![0, 99968] (m ((d : Thread nD τ).loc main_arg3)) slices_S256x100000_S256x32_0_99968 := by
  have e : V3 m d main_arg3 = m ((d : Thread nD τ).loc main_arg3) :=
    (StableHlo.unary_result_ne _ _ _ _ _ _ (by decide)).trans ((StableHlo.reshape_result_ne _ _ _ _ _ _ _ (by decide)).trans (StableHlo.reshape_result_ne _ _ _ _ _ _ _ (by decide)))
  rw [← e]
  exact (StableHlo.unary_result_ne _ _ _ _ _ _ (by decide)).trans ((StableHlo.unary_result_ne _ _ _ _ _ _ (by decide)).trans
    ((StableHlo.reshape_result_ne _ _ _ _ _ _ _ (by decide)).trans (StableHlo.unary_result _ _ _ _ _ _)))

theorem Vs_v5 (d : Dev nD) : Vs m d main_v5
    = extractStridedSlice S1x32 ![0, 99968] (shapeCast S1x100000 (m ((d : Thread nD τ).loc main_arg4)) shapeCasts_S100000_S1x100000) slices_S1x100000_S1x32_0_99968 := by
  have e4 : V4 m d main_arg4 = m ((d : Thread nD τ).loc main_arg4) :=
    (StableHlo.unary_result_ne _ _ _ _ _ _ (by decide)).trans ((StableHlo.unary_result_ne _ _ _ _ _ _ (by decide)).trans
      ((StableHlo.reshape_result_ne _ _ _ _ _ _ _ (by decide)).trans (StableHlo.reshape_result_ne _ _ _ _ _ _ _ (by decide))))
  have e : V5 m d main_v4 = shapeCast S1x100000 (m ((d : Thread nD τ).loc main_arg4)) shapeCasts_S100000_S1x100000 :=
    (StableHlo.reshape_result _ _ _ _ _ _ _).trans (by rw [e4]; rfl)
  rw [← e]
  exact (StableHlo.unary_result_ne _ _ _ _ _ _ (by decide)).trans (StableHlo.unary_result _ _ _ _ _ _)

/-- The arrays the program's steps and calls write. -/
abbrev outs : List (Ref sig .tc) :=
  [main_v0, main_v1, main_v2, main_v3, main_v4, main_v5, main_v6, main_v7_0, main_v7_1, main_v7_2, main_v8, main_v9, main_v10, main_v11_0, main_v11_1]

theorem Vs_outs (d : Dev nD) (b : Ref sig .tc) (h : b ∉ outs) : Vs m d b = m ((d : Thread nD τ).loc b) := by
  have k : ∀ b' ∈ outs, b ≠ b' := fun b' hb e => h (e ▸ hb)
  exact Vs_keep m d b (k _ (by decide)) (k _ (by decide)) (k _ (by decide)) (k _ (by decide)) (k _ (by decide)) (k _ (by decide)) (k _ (by decide))

section After

variable (X : S128x1.Idx → Elt F .i32) (Y : S128x100000.Idx → Elt F .f32)

/-- What the last TensorCore call finds in a buffer that no step before it writes. -/
theorem Vr_keep (d : Dev nD) (b : Ref sig .tc) (h : b ∉ outs) : Vr m X Y d b = m ((d : Thread nD τ).loc b) := by
  have k : ∀ b' ∈ outs, b ≠ b' := fun b' hb e => h (e ▸ hb)
  exact (StableHlo.unary_result_ne _ _ _ _ _ _ (k _ (by decide))).trans ((StableHlo.reshape_result_ne _ _ _ _ _ _ _ (k _ (by decide))).trans
    ((B2_ne m X Y d (k _ (by decide))).trans ((StableHlo.reshape_result_ne _ _ _ _ _ _ _ (k _ (by decide))).trans
      ((A0_keep m X Y d b (k _ (by decide)) (k _ (by decide)) (k _ (by decide))).trans (Vs_outs m d b h)))))

/-- An argument ends as it began. -/
theorem Vp_keep (d : Dev nD) (b : Ref sig .tc) (h : b ∉ outs) : Vp (Vr m X Y) d b = m ((d : Thread nD τ).loc b) := by
  have k : ∀ b' ∈ outs, b ≠ b' := fun b' hb e => h (e ▸ hb)
  exact (Vp_ne _ _ _ (k _ (by decide)) (k _ (by decide))).trans (Vr_keep m X Y d b h)

theorem Vr_v9 (d : Dev nD) : Vr m X Y d main_v9 = gath (ixOf m d) (tbOf m d) :=
  (StableHlo.unary_result_ne _ _ _ _ _ _ (by decide)).trans ((StableHlo.reshape_result_ne _ _ _ _ _ _ _ (by decide)).trans (B2_v9 m X Y d))

theorem Vr_v10 (d : Dev nD) : Vr m X Y d main_v10 = shapeCast S1x64 (m ((d : Thread nD τ).loc main_arg8)) shapeCasts_S64_S1x64 := by
  have e : B2 m X Y d main_arg8 = m ((d : Thread nD τ).loc main_arg8) :=
    (B2_ne m X Y d (b := main_arg8) (by decide)).trans ((StableHlo.reshape_result_ne _ _ _ _ _ _ _ (by decide)).trans
      ((A0_keep m X Y d main_arg8 (by decide) (by decide) (by decide)).trans (Vs_outs m d main_arg8 (by decide))))
  exact (StableHlo.unary_result_ne _ _ _ _ _ _ (by decide)).trans ((StableHlo.reshape_result _ _ _ _ _ _ _).trans (by rw [e]; rfl))

theorem A0_v7_0 (d : Dev nD) : A0 m X Y d main_v7_0 = Y := (congrFun (A0_eq m X Y d) main_v7_0).trans (Vq_v7_0 (Vs m) d X Y)
theorem A0_v7_2 (d : Dev nD) : A0 m X Y d main_v7_2 = tail0 (Vs m) d :=
  (congrFun (A0_eq m X Y d) main_v7_2).trans ((Vq_v7_2 (Vs m) d X Y).trans (arr8 (Vs m) d))

/-- The last TensorCore call writes over a copy of the logits, -/
theorem Vr_v11_1 (d : Dev nD) : Vr m X Y d main_v11_1 = Y := by
  refine (StableHlo.unary_result _ _ _ _ _ _).trans (show B3 m X Y d main_v7_0 = _ from ?_)
  exact (StableHlo.reshape_result_ne _ _ _ _ _ _ _ (by decide)).trans
    ((B2_ne m X Y d (b := main_v7_0) (by decide)).trans ((StableHlo.reshape_result_ne _ _ _ _ _ _ _ (by decide)).trans (A0_v7_0 m X Y d)))

/-- from the last 32 columns' own array. -/
theorem Vr_v7_2 (d : Dev nD) : Vr m X Y d main_v7_2 = tail0 (Vs m) d :=
  (StableHlo.unary_result_ne _ _ _ _ _ _ (by decide)).trans ((StableHlo.reshape_result_ne _ _ _ _ _ _ _ (by decide)).trans
    ((B2_ne m X Y d (b := main_v7_2) (by decide)).trans ((StableHlo.reshape_result_ne _ _ _ _ _ _ _ (by decide)).trans (A0_v7_2 m X Y d))))

/-- The gathered rows, and the merged ones, at the end. -/
theorem Vp_v9 (d : Dev nD) : Vp (Vr m X Y) d main_v9 = gath (ixOf m d) (tbOf m d) :=
  (Vp_ne (Vr m X Y) d main_v9 (by decide) (by decide)).trans (Vr_v9 m X Y d)

theorem Vp_v11_0 (d : Dev nD) : Vp (Vr m X Y) d main_v11_0
    = k2_pay1 (m ((d : Thread nD τ).loc main_arg0)) (m ((d : Thread nD τ).loc main_arg6)) (gath (ixOf m d) (tbOf m d))
        (m ((d : Thread nD τ).loc main_arg7)) (shapeCast S1x64 (m ((d : Thread nD τ).loc main_arg8)) shapeCasts_S64_S1x64) := by
  refine (Vp_v3_0 (Vr m X Y) d).trans ((arr6 (Vr m X Y) d).trans ?_)
  rw [Vr_v10, Vr_v9, Vr_keep m X Y d main_arg0 (by decide), Vr_keep m X Y d main_arg6 (by decide), Vr_keep m X Y d main_arg7 (by decide)]

end After

theorem rowNo_ixOf (d : Dev nD) (j : Fin 128) : rowNo (ixOf m d) j = m ((d : Thread nD τ).loc main_arg10) (ValueIdx.ix1 j) := by
  refine shapeCast_apply (s := S128) _ _ _ (ValueIdx.ix1 j) ?_
  rw [Shape.rowMajor_val_one, Shape.rowMajor_val_two]
  show j.val = j.val / 16 * 16 + j.val % 16
  omega

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- What the precondition says of one row number. -/
theorem in_range (v : BitVec 32) (e : IntOp.andi (IntOp.cmpi .sge v 0#32) (IntOp.cmpi .slt v 100000#32) = 1#1) : v.toNat < 100000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

omit [FloatOps F] [∀ e, Nonempty (Elt F e)] in
theorem inRows_of (d : Dev nD) (h : ∀ j, (m ((d : Thread nD τ).loc main_arg10) j).toNat < 100000) [FloatOps F] : InRows (ixOf m d) := by
  exact fun j => h _

end Args

section Refs

variable (m : (ℓ : Loc nD τ sig) → Buf (Elt Ideal) ℓ)

/-- An entry of the one-hot matrix. -/
theorem uitofp_eq (w : BitVec 32) (c : Fin 100000) :
    (FloatOps.uitofp .f32 (IntOp.cmpi .eq w (BitVec.ofNat 32 c.val)) : Ideal .f32) = if c.val = w.toNat then (1 : EReal) else 0 := by
  show (((BitVec.ofBool (w == BitVec.ofNat 32 c.val)).toNat : ℝ) : EReal) = _
  have hc := c.isLt
  by_cases h : c.val = w.toNat
  · rw [if_pos h, show (w == BitVec.ofNat 32 c.val) = true from by rw [h, BitVec.ofNat_toNat, BitVec.setWidth_eq]; exact beq_self_eq_true w]
    simp
  · rw [if_neg h, show (w == BitVec.ofNat 32 c.val) = false from by
      refine beq_eq_false_iff_ne.mpr fun e => h ?_
      rw [e, BitVec.toNat_ofNat]; omega]
    simp

/-- A row of the one-hot matrix times the table is the table's row: every other term is zero times a number. -/
theorem gath_eq (d : Dev nD) (hix : ∀ j, (m ((d : Thread nD τ).loc main_arg10) j).toNat < 100000) {h0 h1 h2} :
    gath (ixOf m d) (tbOf m d)
      = Host.dotGeneral (F := Ideal) (φ₁ := .f32) (φ₂ := .f32) Cert.GatherRefIdeal.dot_S128x100000_S100000x64_S128x64_1_0_0_1_n_n none
          (uitofp .f32 (cmpi .eq (broadcastInDim Cert.GatherRefIdeal.S128x100000 ![0, 1] h1
              (broadcastInDim Cert.GatherRefIdeal.S128x1 ![0] h0 (m ((d : Thread nD τ).loc main_arg10))))
            (broadcastInDim Cert.GatherRefIdeal.S128x100000 ![0, 1] h2 (iotaInDim Cert.GatherRefIdeal.S1x100000 32 1))))
          (m ((d : Thread nD τ).loc main_arg5)) := by
  funext j
  obtain ⟨p, q, rfl⟩ : ∃ (p : Fin 128) (q : Fin 64), j = ValueIdx.ix2 p q := ⟨j 0, j 1, ValueIdx.eq_ix2 j⟩
  refine Eq.trans ?_ (StackMember.dotGeneral_plain_apply (m := 128) (k := 100000) (n := 64) none _ _ p q).symm
  have hp := hix (ValueIdx.ix1 p)
  have key : ∀ c : Fin 100000, uitofp (F := Ideal) .f32 (cmpi .eq (broadcastInDim Cert.GatherRefIdeal.S128x100000 ![0, 1] h1
              (broadcastInDim Cert.GatherRefIdeal.S128x1 ![0] h0 (m ((d : Thread nD τ).loc main_arg10))))
            (broadcastInDim Cert.GatherRefIdeal.S128x100000 ![0, 1] h2 (iotaInDim Cert.GatherRefIdeal.S1x100000 32 1))) (ValueIdx.ix2 p c)
          = if c.val = (m ((d : Thread nD τ).loc main_arg10) (ValueIdx.ix1 p)).toNat then (1 : EReal) else 0 := by
    intro c
    have e := broadcastInDim_apply (s := Cert.GatherRefIdeal.S128x1) (t := Cert.GatherRefIdeal.S128x100000) ![0, 1] h1
      (broadcastInDim Cert.GatherRefIdeal.S128x1 ![0] h0 (m ((d : Thread nD τ).loc main_arg10))) (ValueIdx.ix2 p c) (ValueIdx.ix2 p (0 : Fin 1)) (by
        intro a
        match a with
        | ⟨0, _⟩ => rfl
        | ⟨1, _⟩ => rfl)
    have e' := broadcastInDim_apply (s := S128) (t := Cert.GatherRefIdeal.S128x1) ![0] h0 (m ((d : Thread nD τ).loc main_arg10)) (ValueIdx.ix2 p (0 : Fin 1)) (ValueIdx.ix1 p) (by
        intro a
        match a with
        | ⟨0, _⟩ => rfl)
    have e2 := broadcastInDim_apply (s := Cert.GatherRefIdeal.S1x100000) (t := Cert.GatherRefIdeal.S128x100000) ![0, 1] h2
      (iotaInDim Cert.GatherRefIdeal.S1x100000 32 1) (ValueIdx.ix2 p c) (ValueIdx.ix2 (0 : Fin 1) c) (by
        intro a
        match a with
        | ⟨0, _⟩ => rfl
        | ⟨1, _⟩ => rfl)
    simp only [uitofp, cmpi, e, e', e2]
    exact uitofp_eq _ c
  have hrow : (⟨(rowNo (ixOf m d) p).toNat % 100000, Nat.mod_lt _ (by decide)⟩ : Fin 100000) = ⟨_, hp⟩ :=
    Fin.ext (by rw [rowNo_ixOf]; exact Nat.mod_eq_of_lt hp)
  rw [Finset.sum_eq_single (⟨_, hp⟩ : Fin 100000)]
  · rw [key, if_pos rfl, one_mul]
    show m ((d : Thread nD τ).loc main_arg5) (ValueIdx.ix2 (⟨(rowNo (ixOf m d) p).toNat % 100000, Nat.mod_lt _ (by decide)⟩ : Fin 100000) q) = _
    rw [hrow]
  · intro c _ hc
    rw [key, if_neg (fun e => hc (Fin.ext e)), zero_mul]
  · intro h; exact absurd (Finset.mem_univ _) h

/-- A row laid along every row, read at one place; the reference's two steps of it. -/
theorem row_val {m n : ℕ} (x : (⟨2, ![1, n]⟩ : Shape).Idx → EReal) (hb : (⟨2, ![1, n]⟩ : Shape).Broadcasts ⟨2, ![m, n]⟩) (p : Fin m) (q : Fin n) :
    broadcastTo ⟨2, ![m, n]⟩ x hb (ValueIdx.ix2 p q) = x (ValueIdx.ix2 (0 : Fin 1) q) :=
  broadcastTo_apply x hb (ValueIdx.ix2 p q) (ValueIdx.ix2 (0 : Fin 1) q) (by
    intro a
    match a with
    | ⟨0, _⟩ => rfl
    | ⟨1, _⟩ =>
      show q.val = if n = 1 then 0 else q.val
      split
      · have := q.isLt; omega
      · rfl)

theorem ref_row_val {m n : ℕ} (x : (⟨1, ![n]⟩ : Shape).Idx → EReal) (h0 : (⟨1, ![n]⟩ : Shape).BroadcastsInDim ⟨2, ![1, n]⟩ ![1])
    (h1 : (⟨2, ![1, n]⟩ : Shape).BroadcastsInDim ⟨2, ![m, n]⟩ ![0, 1]) (p : Fin m) (q : Fin n) :
    broadcastInDim ⟨2, ![m, n]⟩ ![0, 1] h1 (broadcastInDim ⟨2, ![1, n]⟩ ![1] h0 x) (ValueIdx.ix2 p q) = x (ValueIdx.ix1 q) :=
  (broadcastInDim_apply ![0, 1] h1 _ (ValueIdx.ix2 p q) (ValueIdx.ix2 (0 : Fin 1) q) (by
    intro a
    match a with
    | ⟨0, _⟩ => rfl
    | ⟨1, _⟩ =>
      show q.val = if n = 1 then 0 else q.val
      split
      · have := q.isLt; omega
      · rfl)).trans (broadcastInDim_apply ![1] h0 x (ValueIdx.ix2 (0 : Fin 1) q) (ValueIdx.ix1 q) (by
    intro a
    match a with
    | ⟨0, _⟩ =>
      show q.val = if n = 1 then 0 else q.val
      split
      · have := q.isLt; omega
      · rfl))

theorem cast_row_val {n : ℕ} (x : (⟨1, ![n]⟩ : Shape).Idx → EReal) (h : (⟨1, ![n]⟩ : Shape).ShapeCasts ⟨2, ![1, n]⟩) (q : Fin n) :
    shapeCast ⟨2, ![1, n]⟩ x h (ValueIdx.ix2 (0 : Fin 1) q) = x (ValueIdx.ix1 q) :=
  shapeCast_apply x h (ValueIdx.ix2 (0 : Fin 1) q) (ValueIdx.ix1 q) (by
    rw [Shape.rowMajor_val_one, Shape.rowMajor_val_two]
    show q.val = 0 * n + q.val
    omega)

/-- The merged rows are the reference's: the products, the bias row on every row, the hyperbolic tangent. -/
theorem merged_eq (x : S128x64.Idx → Elt Ideal .f32) (w1 : S64x64.Idx → Elt Ideal .f32) (fr : S128x64.Idx → Elt Ideal .f32)
    (w2 : S64x64.Idx → Elt Ideal .f32) (bm : S64.Idx → Elt Ideal .f32) {h0 h1} :
    k2_pay1 (F := Ideal) x w1 fr w2 (shapeCast S1x64 bm shapeCasts_S64_S1x64)
      = Host.tanh (F := Ideal) (φ := .f32) (addf (addf (Host.dotGeneral (φ₁ := .f32) (φ₂ := .f32) Cert.GatherRefIdeal.dot_S128x64_S64x64_S128x64_1_0_0_1_n_n none x w1)
            (Host.dotGeneral (φ₁ := .f32) (φ₂ := .f32) Cert.GatherRefIdeal.dot_S128x64_S64x64_S128x64_1_0_0_1_n_n none fr w2))
          (broadcastInDim Cert.GatherRefIdeal.S128x64 ![0, 1] h1 (broadcastInDim Cert.GatherRefIdeal.S1x64 ![1] h0 bm))) := by
  unfold k2_pay1
  simp only [shapeCast_self]
  rw [matmul_zero_eq_dotGeneral, matmul_zero_eq_dotGeneral]
  have hb : broadcastTo S128x64 (shapeCast S1x64 bm shapeCasts_S64_S1x64) broadcasts_S1x64_S128x64
      = broadcastInDim Cert.GatherRefIdeal.S128x64 ![0, 1] h1 (broadcastInDim Cert.GatherRefIdeal.S1x64 ![1] h0 bm) := by
    funext j
    obtain ⟨p, q, rfl⟩ : ∃ (p : Fin 128) (q : Fin 64), j = ValueIdx.ix2 p q := ⟨j 0, j 1, ValueIdx.eq_ix2 j⟩
    exact (row_val (m := 128) (n := 64) _ _ p q).trans ((cast_row_val (n := 64) bm _ q).trans (ref_row_val (m := 128) (n := 64) bm h0 h1 p q).symm)
  rw [hb]
  rfl

/-! ## The logits -/

/-- A block of logits at one place: a row of the hidden layer times a column of the weights, and the column's bias. -/
theorem lBlk_val (h : FVec Ideal S128x256 .f32) (w : FVec Ideal S256x4096 .f32) (b : Vec Ideal S1x4096 .f32) (p : Fin 128) (q : Fin 4096) :
    lBlk h w b (ValueIdx.ix2 p q) = (∑ c : Fin 256, h (ValueIdx.ix2 p c) * w (ValueIdx.ix2 c q) : EReal) + b (ValueIdx.ix2 (0 : Fin 1) q) := by
  unfold lBlk
  rw [matmul_zero_eq_dotGeneral, shapeCast_self]
  exact congrArg₂ (fun x y : EReal => x + y) (StackMember.dotGeneral_plain_apply (m := 128) (k := 256) (n := 4096) none h w p q)
    (row_val (m := 128) (n := 4096) b broadcasts_S1x4096_S128x4096 p q)
theorem lEnd_val (h : FVec Ideal S128x256 .f32) (w : FVec Ideal S256x1664 .f32) (b : Vec Ideal S1x1664 .f32) (p : Fin 128) (q : Fin 1664) :
    lEnd h w b (ValueIdx.ix2 p q) = (∑ c : Fin 256, h (ValueIdx.ix2 p c) * w (ValueIdx.ix2 c q) : EReal) + b (ValueIdx.ix2 (0 : Fin 1) q) := by
  unfold lEnd
  rw [matmul_zero_eq_dotGeneral, shapeCast_self]
  exact congrArg₂ (fun x y : EReal => x + y) (StackMember.dotGeneral_plain_apply (m := 128) (k := 256) (n := 1664) none h w p q)
    (row_val (m := 128) (n := 1664) b broadcasts_S1x1664_S128x1664 p q)
theorem lTail_val (h : FVec Ideal S128x256 .f32) (w : Vec Ideal S256x32 .f32) (b : Vec Ideal S1x32 .f32) (p : Fin 128) (q : Fin 32) :
    k0_pay193 (k0_pay192 h w) b (ValueIdx.ix2 p q) = (∑ c : Fin 256, h (ValueIdx.ix2 p c) * w (ValueIdx.ix2 c q) : EReal) + b (ValueIdx.ix2 (0 : Fin 1) q) := by
  unfold k0_pay193 k0_pay192
  simp only [shapeCast_self]
  rw [matmul_zero_eq_dotGeneral]
  exact congrArg₂ (fun x y : EReal => x + y) (StackMember.dotGeneral_plain_apply (m := 128) (k := 256) (n := 32) none h w p q)
    (row_val (m := 128) (n := 32) b broadcasts_S1x32_S128x32 p q)

theorem logit_val (h : FVec Ideal S128x256 .f32) (w : S256x100000.Idx → Elt Ideal .f32) (b : S1x99968.Idx → Elt Ideal .f32) (p : Fin 128)
    (q : Fin 100000) (hq : q.val < 99968) :
    logit h w b (ValueIdx.ix2 p q) = (∑ c : Fin 256, h (ValueIdx.ix2 p c) * w (ValueIdx.ix2 c q) : EReal) + b (ValueIdx.ix2 (0 : Fin 1) ⟨q.val, hq⟩) := by
  unfold logit
  by_cases hl : q.val < 98304
  · refine (if_pos hl).trans ((lBlk_val _ _ _ p ⟨q.val % 4096, _⟩).trans ?_)
    have e : (⟨(4096 * (q.val / 4096) + q.val % 4096) % 100000, Nat.mod_lt _ (by decide)⟩ : Fin 100000) = q := Fin.ext (by
      show (4096 * (q.val / 4096) + q.val % 4096) % 100000 = q.val
      omega)
    have e' : (⟨(4096 * (q.val / 4096) + q.val % 4096) % 99968, Nat.mod_lt _ (by decide)⟩ : Fin 99968) = ⟨q.val, hq⟩ := Fin.ext (by
      show (4096 * (q.val / 4096) + q.val % 4096) % 99968 = q.val
      omega)
    exact congrArg₂ (fun x y : EReal => x + y) (Finset.sum_congr rfl fun c _ => congrArg (fun z => (h (ValueIdx.ix2 p c) * w (ValueIdx.ix2 c z) : EReal)) e)
      (congrArg (fun z => b (ValueIdx.ix2 (0 : Fin 1) z)) e')
  · refine (if_neg hl).trans ((lEnd_val _ _ _ p ⟨(q.val - 98304) % 1664, _⟩).trans ?_)
    have e : (⟨(98304 + (q.val - 98304) % 1664) % 100000, Nat.mod_lt _ (by decide)⟩ : Fin 100000) = q := Fin.ext (by
      show (98304 + (q.val - 98304) % 1664) % 100000 = q.val
      omega)
    have e' : (⟨(98304 + (q.val - 98304) % 1664) % 99968, Nat.mod_lt _ (by decide)⟩ : Fin 99968) = ⟨q.val, hq⟩ := Fin.ext (by
      show (98304 + (q.val - 98304) % 1664) % 99968 = q.val
      omega)
    exact congrArg₂ (fun x y : EReal => x + y) (Finset.sum_congr rfl fun c _ => congrArg (fun z => (h (ValueIdx.ix2 p c) * w (ValueIdx.ix2 c z) : EReal)) e)
      (congrArg (fun z => b (ValueIdx.ix2 (0 : Fin 1) z)) e')

/-- The hidden layer is the reference's. -/
theorem hidden_eq (x : S128x64.Idx → Elt Ideal .f32) (w : S64x256.Idx → Elt Ideal .f32) (b : S256.Idx → Elt Ideal .f32) {h0 h1 h2} :
    k0_pay1 (F := Ideal) x w (shapeCast S1x256 b shapeCasts_S256_S1x256)
      = maximumf (addf (Host.dotGeneral (F := Ideal) (φ₁ := .f32) (φ₂ := .f32) Cert.GatherRefIdeal.dot_S128x64_S64x256_S128x256_1_0_0_1_n_n none x w)
          (broadcastInDim Cert.GatherRefIdeal.S128x256 ![0, 1] h1 (broadcastInDim Cert.GatherRefIdeal.S1x256 ![1] h0 b)))
        (broadcastInDim Cert.GatherRefIdeal.S128x256 ![] h2 (constant Cert.GatherRefIdeal.S_ .f32 0x00000000#32)) := by
  unfold k0_pay1
  simp only [shapeCast_self]
  rw [matmul_zero_eq_dotGeneral]
  have hb : broadcastTo S128x256 (shapeCast S1x256 b shapeCasts_S256_S1x256) broadcasts_S1x256_S128x256
      = broadcastInDim Cert.GatherRefIdeal.S128x256 ![0, 1] h1 (broadcastInDim Cert.GatherRefIdeal.S1x256 ![1] h0 b) := by
    funext j
    obtain ⟨p, q, rfl⟩ : ∃ (p : Fin 128) (q : Fin 256), j = ValueIdx.ix2 p q := ⟨j 0, j 1, ValueIdx.eq_ix2 j⟩
    exact (row_val (m := 128) (n := 256) _ _ p q).trans ((cast_row_val (n := 256) b _ q).trans (ref_row_val (m := 128) (n := 256) b h0 h1 p q).symm)
  rw [hb]
  rfl

/-- The reference's logits. -/
abbrev refLogits (x : S128x64.Idx → Elt Ideal .f32) (w1 : S64x256.Idx → Elt Ideal .f32) (b1 : S256.Idx → Elt Ideal .f32)
    (w2 : S256x100000.Idx → Elt Ideal .f32) (b2 : S100000.Idx → Elt Ideal .f32) : S128x100000.Idx → Elt Ideal .f32 :=
  addf (Host.dotGeneral (F := Ideal) (φ₁ := .f32) (φ₂ := .f32) Cert.GatherRefIdeal.dot_S128x256_S256x100000_S128x100000_1_0_0_1_n_n none
      (maximumf (addf (Host.dotGeneral (F := Ideal) (φ₁ := .f32) (φ₂ := .f32) Cert.GatherRefIdeal.dot_S128x64_S64x256_S128x256_1_0_0_1_n_n none x w1)
          (broadcastInDim Cert.GatherRefIdeal.S128x256 ![0, 1] Cert.GatherRefIdeal.Gen.bcast_S1x256_S128x256_0_1
            (broadcastInDim Cert.GatherRefIdeal.S1x256 ![1] Cert.GatherRefIdeal.Gen.bcast_S256_S1x256_1 b1)))
        (broadcastInDim Cert.GatherRefIdeal.S128x256 ![] Cert.GatherRefIdeal.Gen.bcast_S_S128x256 (constant Cert.GatherRefIdeal.S_ .f32 0x00000000#32))) w2)
    (broadcastInDim Cert.GatherRefIdeal.S128x100000 ![0, 1] Cert.GatherRefIdeal.Gen.bcast_S1x100000_S128x100000_0_1
      (broadcastInDim Cert.GatherRefIdeal.S1x100000 ![1] Cert.GatherRefIdeal.Gen.bcast_S100000_S1x100000_1 b2))

theorem refLogits_val (x w1 b1 w2 b2) (p : Fin 128) (q : Fin 100000) :
    refLogits x w1 b1 w2 b2 (ValueIdx.ix2 p q)
      = (∑ c : Fin 256, k0_pay1 (F := Ideal) x w1 (shapeCast S1x256 b1 shapeCasts_S256_S1x256) (ValueIdx.ix2 p c) * w2 (ValueIdx.ix2 c q) : EReal) + b2 (ValueIdx.ix1 q) := by
  unfold refLogits
  rw [← hidden_eq]
  exact congrArg₂ (fun x y : EReal => x + y) (StackMember.dotGeneral_plain_apply (m := 128) (k := 256) (n := 100000) none _ w2 p q)
    (ref_row_val (m := 128) (n := 100000) b2 _ _ p q)

/-- The logits at the end are the reference's: in every column but the last 32 those the first call left, and in the last 32
    those its own array holds. -/
theorem logits_eq (X) (Y : S128x100000.Idx → Elt Ideal .f32) (d : Dev nD) (hY : Ranked (Vs m) d Y) :
    Vp (Vr m X Y) d main_v11_1 = refLogits (m ((d : Thread nD τ).loc main_arg0)) (m ((d : Thread nD τ).loc main_arg1)) (m ((d : Thread nD τ).loc main_arg2))
      (m ((d : Thread nD τ).loc main_arg3)) (m ((d : Thread nD τ).loc main_arg4)) := by
  have hh : hid0 (Vs m) d = k0_pay1 (F := Ideal) (m ((d : Thread nD τ).loc main_arg0)) (m ((d : Thread nD τ).loc main_arg1))
      (shapeCast S1x256 (m ((d : Thread nD τ).loc main_arg2)) shapeCasts_S256_S1x256) := by
    rw [hid0_eq, Vs_v0, Vs_outs m d main_arg0 (by decide), Vs_outs m d main_arg1 (by decide)]
  rw [Vp_v3_1]
  funext j
  obtain ⟨p, q, rfl⟩ : ∃ (p : Fin 128) (q : Fin 100000), j = ValueIdx.ix2 p q := ⟨j 0, j 1, ValueIdx.eq_ix2 j⟩
  rw [refLogits_val, ← hh]
  by_cases h : q.val < 99968
  · rw [arr7_rest _ _ _ h, Vr_v11_1]
    refine (hY _ h).trans ((logit_val _ _ _ p q h).trans ?_)
    rw [Vs_outs m d main_arg3 (by decide), ops3_eq, Vs_v2]
    refine congrArg (fun y : EReal => _ + y) ?_
    refine (extractStridedSlice_apply (s := S1x100000) _ _ _ _ (ValueIdx.ix2 (0 : Fin 1) q) fun a => ?_).trans (cast_row_val (n := 100000) _ _ q)
    match a with
    | ⟨0, _⟩ => exact (Nat.zero_add _).symm
    | ⟨1, _⟩ => exact (Nat.zero_add _).symm
  · have hq := q.isLt
    have e := arr7_tail (Vr m X Y) d p ⟨q.val - 99968, by omega⟩
    rw [show ((cfg2.win 7).blk t2_0).view.emb (x7 p ⟨q.val - 99968, by omega⟩) = (ValueIdx.ix2 p q : S128x100000.Idx) from by
      funext a; apply Fin.ext
      match a with
      | ⟨0, _⟩ => exact (emb7_0 _).trans (x7_0 _ _)
      | ⟨1, _⟩ =>
        refine (emb7_1 _).trans ?_
        rw [x7_1]
        show 99968 + (q.val - 99968) = q.val
        omega] at e
    rw [e, Vr_v7_2, tail0_eq]
    refine (lTail_val _ _ _ p ⟨q.val - 99968, by omega⟩).trans ?_
    rw [Vs_v3, Vs_v5]
    refine congrArg₂ (fun x y : EReal => x + y) (Finset.sum_congr rfl fun c _ => congrArg (fun y : EReal => _ * y) ?_) ?_
    · refine extractStridedSlice_apply (s := S256x100000) _ _ _ _ (ValueIdx.ix2 c q) fun a => ?_
      match a with
      | ⟨0, _⟩ => exact (Nat.zero_add _).symm
      | ⟨1, _⟩ =>
        show q.val = 99968 + (q.val - 99968)
        omega
    · refine (extractStridedSlice_apply (s := S1x100000) _ _ _ _ (ValueIdx.ix2 (0 : Fin 1) q) fun a => ?_).trans (cast_row_val (n := 100000) _ _ q)
      match a with
      | ⟨0, _⟩ => exact (Nat.zero_add _).symm
      | ⟨1, _⟩ =>
        show q.val = 99968 + (q.val - 99968)
        omega

end Refs

end Cert.Proof.Gath
end
-- ==== Proof.lean ====
/-
  The claims, from the run of the program and the run of its reference.
-/
module

public import proofs.«01_k».proof.Defs
public import proofs.«01_k».proof.Proof.Value
public import proofs.«01_k».proof.Proof.Gen.Gather
public import proofs.«01_k».proof.Proof.Gen.GatherRefIdeal.Run
public import Idealize.ShloMosaic.Lib.Quiescent

@[expose] public section

set_option maxRecDepth 16384

noncomputable section

namespace Cert.Proof

open Idealize.ShloMosaic Idealize.ShloMosaic.TcCoe Idealize.SL.Sem
open Cert.Proof.Gath

/-- Each row number is in range, by the precondition. -/
theorem rows_of {F : FTy → Type} [FloatOps F] (m : (ℓ : Loc GatherIdeal.nD GatherIdeal.τ GatherIdeal.sig) → Buf (Elt F) ℓ)
    (d : Dev GatherIdeal.nD)
    (h : Pre_index_in_rows.fn (F := F) (m (d.tc.loc GatherIdeal.main_arg0)) (m (d.tc.loc GatherIdeal.main_arg1)) (m (d.tc.loc GatherIdeal.main_arg2))
      (m (d.tc.loc GatherIdeal.main_arg3)) (m (d.tc.loc GatherIdeal.main_arg4)) (m (d.tc.loc GatherIdeal.main_arg5)) (m (d.tc.loc GatherIdeal.main_arg6))
      (m (d.tc.loc GatherIdeal.main_arg7)) (m (d.tc.loc GatherIdeal.main_arg8)) (m (d.tc.loc GatherIdeal.main_arg9)) (m (d.tc.loc GatherIdeal.main_arg10))
        = fun _ => 1#1) :
    ∀ j, (m ((d : Thread GatherIdeal.nD GatherIdeal.τ).loc GatherIdeal.main_arg10) j).toNat < 100000 := by
  intro j
  have e := congrFun h j
  simp only [Pre_index_in_rows.fn, andi, cmpi, broadcastInDim, constantI] at e
  exact in_range _ e

/-- The program's run leaves its arguments, and every counter at zero. -/
theorem args_of {F : FTy → Type} [FloatOps F] [∀ e, Nonempty (Elt F e)] (m : (ℓ : Loc GatherIdeal.nD GatherIdeal.τ GatherIdeal.sig) → Buf (Elt F) ℓ)
    (r : PUnit × MemSt GatherIdeal.nD GatherIdeal.τ GatherIdeal.sig (Elt F)) (h : QC m r) (c : Dev GatherIdeal.nD) :
    r.2.mem (c.tc.loc GatherIdeal.main_arg0) = m (c.tc.loc GatherIdeal.main_arg0)
    ∧ r.2.mem (c.tc.loc GatherIdeal.main_arg1) = m (c.tc.loc GatherIdeal.main_arg1)
    ∧ r.2.mem (c.tc.loc GatherIdeal.main_arg2) = m (c.tc.loc GatherIdeal.main_arg2)
    ∧ r.2.mem (c.tc.loc GatherIdeal.main_arg3) = m (c.tc.loc GatherIdeal.main_arg3)
    ∧ r.2.mem (c.tc.loc GatherIdeal.main_arg4) = m (c.tc.loc GatherIdeal.main_arg4)
    ∧ r.2.mem (c.tc.loc GatherIdeal.main_arg5) = m (c.tc.loc GatherIdeal.main_arg5)
    ∧ r.2.mem (c.tc.loc GatherIdeal.main_arg6) = m (c.tc.loc GatherIdeal.main_arg6)
    ∧ r.2.mem (c.tc.loc GatherIdeal.main_arg7) = m (c.tc.loc GatherIdeal.main_arg7)
    ∧ r.2.mem (c.tc.loc GatherIdeal.main_arg8) = m (c.tc.loc GatherIdeal.main_arg8)
    ∧ r.2.mem (c.tc.loc GatherIdeal.main_arg9) = m (c.tc.loc GatherIdeal.main_arg9)
    ∧ r.2.mem (c.tc.loc GatherIdeal.main_arg10) = m (c.tc.loc GatherIdeal.main_arg10) := by
  obtain ⟨X, Y, -, hb⟩ := h.1 c
  have keep : ∀ b : Ref GatherIdeal.sig .tc, b.isScoped = false → b ∉ outs → r.2.mem (c.tc.loc b) = m (c.tc.loc b) :=
    fun b hs hn => (hb b hs).trans (Vp_keep m X Y c b hn)
  refine ⟨keep _ rfl ?_, keep _ rfl ?_, keep _ rfl ?_, keep _ rfl ?_, keep _ rfl ?_, keep _ rfl ?_, keep _ rfl ?_, keep _ rfl ?_,
    keep _ rfl ?_, keep _ rfl ?_, keep _ rfl ?_⟩ <;> decide

/-- The frame, at any float values. -/
theorem frame_of {F : FTy → Type} [FloatOps F] [∀ e, Nonempty (Elt F e)] (m : (ℓ : Loc GatherIdeal.nD GatherIdeal.τ GatherIdeal.sig) → Buf (Elt F) ℓ)
    (ρ : Dev GatherIdeal.nD → PrngReg) (hix : ∀ d, InRows (ixOf m d)) :
    θ_run (Cert.GatherIdeal.defs (F := F)) (Cert.GatherIdeal.threads (F := F)) ⟨m, fun _ => 0, ρ⟩ (fun r =>
        (∀ c : Dev GatherIdeal.nD, r.2.mem (c.tc.loc GatherIdeal.main_arg0) = m (c.tc.loc GatherIdeal.main_arg0)
        ∧ r.2.mem (c.tc.loc GatherIdeal.main_arg1) = m (c.tc.loc GatherIdeal.main_arg1)
        ∧ r.2.mem (c.tc.loc GatherIdeal.main_arg2) = m (c.tc.loc GatherIdeal.main_arg2)
        ∧ r.2.mem (c.tc.loc GatherIdeal.main_arg3) = m (c.tc.loc GatherIdeal.main_arg3)
        ∧ r.2.mem (c.tc.loc GatherIdeal.main_arg4) = m (c.tc.loc GatherIdeal.main_arg4)
        ∧ r.2.mem (c.tc.loc GatherIdeal.main_arg5) = m (c.tc.loc GatherIdeal.main_arg5)
        ∧ r.2.mem (c.tc.loc GatherIdeal.main_arg6) = m (c.tc.loc GatherIdeal.main_arg6)
        ∧ r.2.mem (c.tc.loc GatherIdeal.main_arg7) = m (c.tc.loc GatherIdeal.main_arg7)
        ∧ r.2.mem (c.tc.loc GatherIdeal.main_arg8) = m (c.tc.loc GatherIdeal.main_arg8)
        ∧ r.2.mem (c.tc.loc GatherIdeal.main_arg9) = m (c.tc.loc GatherIdeal.main_arg9)
        ∧ r.2.mem (c.tc.loc GatherIdeal.main_arg10) = m (c.tc.loc GatherIdeal.main_arg10))
        ∧ r.2.sem = fun _ => 0) :=
  (θ_run Cert.GatherIdeal.defs _ _).mono (fun r h => ⟨fun c => args_of m r h c, h.2⟩) (run_main m ρ hix)

/-! The two printings of the program have one text, so one set of bodies. -/

set_option maxHeartbeats 20000000 in
theorem bodies_eq : Cert.Gather.defs₀ (F := Bits) = Cert.GatherIdeal.defs₀ (F := Bits) := by
  funext p l a
  match p, l, a with
  | .scVector c s, 0, _ => rfl
  | .scVector c s, 1, _ => rfl
  | .scVector c s, 2, _ => rfl
  | .tc, 0, (t, s) => rfl
  | .tc, 1, _ => rfl
  | .tc, 2, (t, s) => rfl
  | .scScalar _, 0, _ => rfl
  | .scScalar _, 1, _ => rfl
  | .scScalar _, 2, _ => rfl

theorem defs_eq : Cert.GatherIdeal.defs (F := Bits) = Cert.Gather.defs (F := Bits) := by
  unfold Cert.Gather.defs Cert.GatherIdeal.defs
  rw [bodies_eq]; rfl

theorem frame_kernel : Cert.quiescent_Gather := by
  intro m ρ hpre
  have e := frame_of (F := Bits) m ρ fun d => inRows_of m d (rows_of (F := Bits) m d (hpre d))
  rw [defs_eq] at e
  exact e

theorem frame_ideal : Cert.quiescent_GatherIdeal := fun m ρ hpre =>
  frame_of (F := Ideal) m ρ fun d => inRows_of m d (rows_of (F := Ideal) m d (hpre d))

theorem frame_ref : Cert.quiescent_GatherRefIdeal := fun m ρ _ =>
  (θ_run Cert.GatherRefIdeal.defs _ _).mono (fun r h => ⟨fun c => (h c).2.2.2, sem_eq_zero_of_no_sems rfl _⟩)
    (Cert.GatherRefIdeal.Value.run (F := Ideal) m ρ)

theorem value : Cert.algebraic_GatherIdeal_GatherRefIdeal := by
  intro m ρ m' ρ' hpre harg
  refine ⟨fun c => refLogits (m (c.tc.loc GatherIdeal.main_arg0)) (m (c.tc.loc GatherIdeal.main_arg1)) (m (c.tc.loc GatherIdeal.main_arg2))
      (m (c.tc.loc GatherIdeal.main_arg3)) (m (c.tc.loc GatherIdeal.main_arg4)),
    fun c => gath (ixOf m c) (tbOf m c),
    fun c => GatherIdeal.Gen.k2_pay1 (m (c.tc.loc GatherIdeal.main_arg0)) (m (c.tc.loc GatherIdeal.main_arg6)) (gath (ixOf m c) (tbOf m c))
      (m (c.tc.loc GatherIdeal.main_arg7)) (shapeCast GatherIdeal.S1x64 (m (c.tc.loc GatherIdeal.main_arg8)) GatherIdeal.Gen.shapeCasts_S64_S1x64), ?_, ?_⟩
  · refine (θ_run Cert.GatherIdeal.defs _ _).mono (fun r h c => ?_)
      (run_main (F := Ideal) m ρ fun d => inRows_of m d (rows_of (F := Ideal) m d (hpre d)))
    obtain ⟨X, Y, hY, hb⟩ := h.1 c
    exact ⟨(hb _ rfl).trans (logits_eq m X Y c hY), (hb _ rfl).trans (Vp_v9 m X Y c), (hb _ rfl).trans (Vp_v11_0 m X Y c), args_of (F := Ideal) m r h c⟩
  · refine (θ_run Cert.GatherRefIdeal.defs _ _).mono (fun r h c => ?_) (Cert.GatherRefIdeal.Value.run (F := Ideal) m' ρ')
    obtain ⟨e0, e1, e2, hargs⟩ := h c
    obtain ⟨a0, a1, a2, a3, a4, a5, a6, a7, a8, -, a10⟩ := harg c
    have hix := rows_of (F := Ideal) m c (hpre c)
    refine ⟨e0.trans ?_, e1.trans ?_, e2.trans ?_, hargs⟩
    · rw [a0, a1, a2, a3, a4]
    · rw [a5, a10]; exact (gath_eq m c hix).symm
    · rw [a0, a5, a6, a7, a8, a10, ← gath_eq m c hix]
      exact (merged_eq _ _ _ _ _).symm

theorem claim : Cert.Claim :=
  ⟨Cert.Gather.Gen.facts, Cert.GatherIdeal.Gen.facts, Cert.GatherRefIdeal.Gen.facts, Cert.Pre_index_in_rows.Gen.facts,
    frame_kernel, frame_ideal, frame_ref, fun m ρ _ => frame_ref m ρ trivial, trivial, value⟩

end Cert.Proof

end
